-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed_KernelIdeal [hPre_well_formed_KernelIdeal : Cert.Pre_well_formed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed_ReferenceIdeal [hPre_well_formed_ReferenceIdeal : Cert.Pre_well_formed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_formed_KernelIdeal [hKernelIdeal : Cert.KernelIdeal.Facts] [hPre_well_formed_KernelIdeal : Cert.Pre_well_formed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed_ReferenceIdeal [hReferenceIdeal : Cert.ReferenceIdeal.Facts] [hPre_well_formed_ReferenceIdeal : Cert.Pre_well_formed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_well_formed_KernelIdeal [hKernelIdeal : Cert.KernelIdeal.Facts] [hReferenceIdeal : Cert.ReferenceIdeal.Facts] [hPre_well_formed_KernelIdeal : Cert.Pre_well_formed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![128, 16, 16, 64]⟩ ⟨4, ![256, 16, 16, 64]⟩ (Layout.meshBlock [2, 2] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![128, 16, 16, 64]⟩ ⟨4, ![256, 16, 16, 64]⟩ (Layout.meshBlock [2, 2] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_formed_KernelIdeal : Cert.Pre_well_formed_KernelIdeal.Facts) (hPre_well_formed_ReferenceIdeal : Cert.Pre_well_formed_ReferenceIdeal.Facts),
    quiescent_Kernel (hKernel := hKernel)
    ∧ quiescent_KernelIdeal (hKernelIdeal := hKernelIdeal)
    ∧ quiescent_KernelIdeal_pre_well_formed_KernelIdeal (hKernelIdeal := hKernelIdeal) (hPre_well_formed_KernelIdeal := hPre_well_formed_KernelIdeal)
    ∧ quiescent_ReferenceIdeal (hReferenceIdeal := hReferenceIdeal)
    ∧ quiescent_ReferenceIdeal_pre_well_formed_ReferenceIdeal (hReferenceIdeal := hReferenceIdeal) (hPre_well_formed_ReferenceIdeal := hPre_well_formed_ReferenceIdeal)
    ∧ preserves_Kernel_KernelIdeal
    ∧ algebraic_KernelIdeal_ReferenceIdeal_pre_well_formed_KernelIdeal (hKernelIdeal := hKernelIdeal) (hReferenceIdeal := hReferenceIdeal) (hPre_well_formed_KernelIdeal := hPre_well_formed_KernelIdeal)
-- ==== Pre_well_formed_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16x1 : Shape := ⟨2, ![16, 1]⟩
abbrev S_ : Shape := ⟨0, ![]⟩
abbrev S128 : Shape := ⟨1, ![128]⟩
abbrev S1x128 : Shape := ⟨2, ![1, 128]⟩

class Facts : Prop where
  bcast_S_S16x1 : S_.BroadcastsInDim S16x1 (![] : Fin 0 → Fin S16x1.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x128 : S_.BroadcastsInDim S16x128 (![] : Fin 0 → Fin S16x128.rank)
  reducesTo_S16x128_S_d0_1 : S16x128.ReducesTo [0, 1] S_
  h_S_ : 0 < S_.numel
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  bcast_S_S128x16x16x64 : S_.BroadcastsInDim S128x16x16x64 (![] : Fin 0 → Fin S128x16x16x64.rank)
  reducesTo_S128x16x16x64_S_d0_1_2_3 : S128x16x16x64.ReducesTo [0, 1, 2, 3] S_

variable [Facts]

def fn_part1 {F : FTy → Type} [FloatOps F] (main_arg1 : FVec F S128x16x16x64 .f32) (main_v15 : IVec S_ 1) (main_v18 : IVec S16x1x16x64 1) : IVec S_ 1 :=
  let main_c_3 : IVec S_ 1 := constantI S_ 1 1#1
  let main_v19 : IVec S_ 1 := (fun x v => Host.reduce IntOp.andi x v reducesTo_S16x1x16x64_S_d0_1_2_3 h_S_) main_v18 main_c_3
  let main_v20 : IVec S_ 1 := andi main_v15 main_v19
  let main_v21 : FVec F S128x16x16x64 .f32 := Host.absf main_arg1
  let main_cst_4 : FVec F S_ .f32 := constant S_ .f32 0x7F800000#32
  let main_v22 : FVec F S128x16x16x64 .f32 := broadcastInDim S128x16x16x64 ![] bcast_S_S128x16x16x64 main_cst_4
  let main_v23 : IVec S128x16x16x64 1 := cmpf .olt main_v21 main_v22
  let main_c_5 : IVec S_ 1 := constantI S_ 1 1#1
  let main_v24 : IVec S_ 1 := (fun x v => Host.reduce IntOp.andi x v reducesTo_S128x16x16x64_S_d0_1_2_3 h_S_) main_v23 main_c_5
  let main_v25 : IVec S_ 1 := andi main_v20 main_v24
  main_v25

def fn {F : FTy → Type} [FloatOps F] (main_arg0 : FVec F S16x1x16x64 .f32) (main_arg1 : FVec F S128x16x16x64 .f32) (main_arg2 : FVec F S128x16x16x64 .f32) (main_arg3 : IVec S16x128 32) (main_arg4 : IVec S16x1 32) : IVec S_ 1 :=
  let main_c : IVec S_ 32 := constantI S_ 32 1#32
  let main_v0 : IVec S16x1 32 := broadcastInDim S16x1 ![] bcast_S_S16x1 main_c
  let main_v1 : IVec S16x1 1 := cmpi .sge main_arg4 main_v0
  let main_v2 : IVec S128 32 := iotaInDim S128 32 0
  let main_v3 : IVec S1x128 32 := broadcastInDim S1x128 ![1] bcast_S128_S1x128_1 main_v2
  let main_v4 : IVec S16x128 32 := broadcastInDim S16x128 ![0, 1] bcast_S1x128_S16x128_0_1 main_v3
  let main_v5 : IVec S16x128 32 := broadcastInDim S16x128 ![0, 1] bcast_S16x1_S16x128_0_1 main_arg4
  let main_v6 : IVec S16x128 1 := cmpi .sge main_v4 main_v5
  let main_c_0 : IVec S_ 32 := constantI S_ 32 0#32
  let main_v7 : IVec S16x128 32 := broadcastInDim S16x128 ![] bcast_S_S16x128 main_c_0
  let main_v8 : IVec S16x128 1 := cmpi .sge main_arg3 main_v7
  let main_c_1 : IVec S_ 32 := constantI S_ 32 256#32
  let main_v9 : IVec S16x128 32 := broadcastInDim S16x128 ![] bcast_S_S16x128 main_c_1
  let main_v10 : IVec S16x128 1 := cmpi .slt main_arg3 main_v9
  let main_v11 : IVec S16x128 1 := andi main_v8 main_v10
  let main_v12 : IVec S16x128 1 := ori main_v6 main_v11
  let main_v13 : IVec S16x128 1 := broadcastInDim S16x128 ![0, 1] bcast_S16x1_S16x128_0_1 main_v1
  let main_v14 : IVec S16x128 1 := andi main_v13 main_v12
  let main_c_2 : IVec S_ 1 := constantI S_ 1 1#1
  let main_v15 : IVec S_ 1 := (fun x v => Host.reduce IntOp.andi x v reducesTo_S16x128_S_d0_1 h_S_) main_v14 main_c_2
  let main_v16 : FVec F S16x1x16x64 .f32 := Host.absf main_arg0
  let main_cst : FVec F S_ .f32 := constant S_ .f32 0x7F800000#32
  let main_v17 : FVec F S16x1x16x64 .f32 := broadcastInDim S16x1x16x64 ![] bcast_S_S16x1x16x64 main_cst
  let main_v18 : IVec S16x1x16x64 1 := cmpf .olt main_v16 main_v17
  fn_part1 (F := F) main_arg1 main_v15 main_v18
-- ==== Pre_well_formed_ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16x1 : Shape := ⟨2, ![16, 1]⟩
abbrev S_ : Shape := ⟨0, ![]⟩
abbrev S128 : Shape := ⟨1, ![128]⟩
abbrev S1x128 : Shape := ⟨2, ![1, 128]⟩

class Facts : Prop where
  bcast_S_S16x1 : S_.BroadcastsInDim S16x1 (![] : Fin 0 → Fin S16x1.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x128 : S_.BroadcastsInDim S16x128 (![] : Fin 0 → Fin S16x128.rank)
  reducesTo_S16x128_S_d0_1 : S16x128.ReducesTo [0, 1] S_
  h_S_ : 0 < S_.numel
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  bcast_S_S256x16x16x64 : S_.BroadcastsInDim S256x16x16x64 (![] : Fin 0 → Fin S256x16x16x64.rank)
  reducesTo_S256x16x16x64_S_d0_1_2_3 : S256x16x16x64.ReducesTo [0, 1, 2, 3] S_

variable [Facts]

def fn_part1 {F : FTy → Type} [FloatOps F] (main_arg1 : FVec F S256x16x16x64 .f32) (main_v15 : IVec S_ 1) (main_v18 : IVec S16x1x16x64 1) : IVec S_ 1 :=
  let main_c_3 : IVec S_ 1 := constantI S_ 1 1#1
  let main_v19 : IVec S_ 1 := (fun x v => Host.reduce IntOp.andi x v reducesTo_S16x1x16x64_S_d0_1_2_3 h_S_) main_v18 main_c_3
  let main_v20 : IVec S_ 1 := andi main_v15 main_v19
  let main_v21 : FVec F S256x16x16x64 .f32 := Host.absf main_arg1
  let main_cst_4 : FVec F S_ .f32 := constant S_ .f32 0x7F800000#32
  let main_v22 : FVec F S256x16x16x64 .f32 := broadcastInDim S256x16x16x64 ![] bcast_S_S256x16x16x64 main_cst_4
  let main_v23 : IVec S256x16x16x64 1 := cmpf .olt main_v21 main_v22
  let main_c_5 : IVec S_ 1 := constantI S_ 1 1#1
  let main_v24 : IVec S_ 1 := (fun x v => Host.reduce IntOp.andi x v reducesTo_S256x16x16x64_S_d0_1_2_3 h_S_) main_v23 main_c_5
  let main_v25 : IVec S_ 1 := andi main_v20 main_v24
  main_v25

def fn {F : FTy → Type} [FloatOps F] (main_arg0 : FVec F S16x1x16x64 .f32) (main_arg1 : FVec F S256x16x16x64 .f32) (main_arg2 : FVec F S256x16x16x64 .f32) (main_arg3 : IVec S16x128 32) (main_arg4 : IVec S16x1 32) : IVec S_ 1 :=
  let main_c : IVec S_ 32 := constantI S_ 32 1#32
  let main_v0 : IVec S16x1 32 := broadcastInDim S16x1 ![] bcast_S_S16x1 main_c
  let main_v1 : IVec S16x1 1 := cmpi .sge main_arg4 main_v0
  let main_v2 : IVec S128 32 := iotaInDim S128 32 0
  let main_v3 : IVec S1x128 32 := broadcastInDim S1x128 ![1] bcast_S128_S1x128_1 main_v2
  let main_v4 : IVec S16x128 32 := broadcastInDim S16x128 ![0, 1] bcast_S1x128_S16x128_0_1 main_v3
  let main_v5 : IVec S16x128 32 := broadcastInDim S16x128 ![0, 1] bcast_S16x1_S16x128_0_1 main_arg4
  let main_v6 : IVec S16x128 1 := cmpi .sge main_v4 main_v5
  let main_c_0 : IVec S_ 32 := constantI S_ 32 0#32
  let main_v7 : IVec S16x128 32 := broadcastInDim S16x128 ![] bcast_S_S16x128 main_c_0
  let main_v8 : IVec S16x128 1 := cmpi .sge main_arg3 main_v7
  let main_c_1 : IVec S_ 32 := constantI S_ 32 256#32
  let main_v9 : IVec S16x128 32 := broadcastInDim S16x128 ![] bcast_S_S16x128 main_c_1
  let main_v10 : IVec S16x128 1 := cmpi .slt main_arg3 main_v9
  let main_v11 : IVec S16x128 1 := andi main_v8 main_v10
  let main_v12 : IVec S16x128 1 := ori main_v6 main_v11
  let main_v13 : IVec S16x128 1 := broadcastInDim S16x128 ![0, 1] bcast_S16x1_S16x128_0_1 main_v1
  let main_v14 : IVec S16x128 1 := andi main_v13 main_v12
  let main_c_2 : IVec S_ 1 := constantI S_ 1 1#1
  let main_v15 : IVec S_ 1 := (fun x v => Host.reduce IntOp.andi x v reducesTo_S16x128_S_d0_1 h_S_) main_v14 main_c_2
  let main_v16 : FVec F S16x1x16x64 .f32 := Host.absf main_arg0
  let main_cst : FVec F S_ .f32 := constant S_ .f32 0x7F800000#32
  let main_v17 : FVec F S16x1x16x64 .f32 := broadcastInDim S16x1x16x64 ![] bcast_S_S16x1x16x64 main_cst
  let main_v18 : IVec S16x1x16x64 1 := cmpf .olt main_v16 main_v17
  fn_part1 (F := F) main_arg1 main_v15 main_v18
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16x1 : Shape := ⟨2, ![16, 1]⟩
abbrev S8x128x16x64 : Shape := ⟨4, ![8, 128, 16, 64]⟩
abbrev S2x16x8x66 : Shape := ⟨4, ![2, 16, 8, 66]⟩
abbrev S2x16x8x64 : Shape := ⟨4, ![2, 16, 8, 64]⟩
abbrev S8 : Shape := ⟨1, ![8]⟩
abbrev S_ : Shape := ⟨0, ![]⟩
abbrev S1 : Shape := ⟨1, ![1]⟩
abbrev S1x128x16x64 : Shape := ⟨4, ![1, 128, 16, 64]⟩
abbrev S128x16x64 : Shape := ⟨3, ![128, 16, 64]⟩
abbrev S128x16x1x64 : Shape := ⟨4, ![128, 16, 1, 64]⟩
abbrev S16x128x128 : Shape := ⟨3, ![16, 128, 128]⟩
abbrev S16x1x128 : Shape := ⟨3, ![16, 1, 128]⟩
abbrev S128x2048 : Shape := ⟨2, ![128, 2048]⟩
abbrev S16x2048 : Shape := ⟨2, ![16, 2048]⟩
abbrev S16x1x1x64 : Shape := ⟨4, ![16, 1, 1, 64]⟩
abbrev S16x64 : Shape := ⟨2, ![16, 64]⟩
abbrev S2048x64 : Shape := ⟨2, ![2048, 64]⟩
abbrev S16 : Shape := ⟨1, ![16]⟩
abbrev S1x16x1x64 : Shape := ⟨4, ![1, 16, 1, 64]⟩
abbrev S1x16x1x1 : Shape := ⟨4, ![1, 16, 1, 1]⟩
abbrev S1x16x8x66 : Shape := ⟨4, ![1, 16, 8, 66]⟩
abbrev S16x8x66 : Shape := ⟨3, ![16, 8, 66]⟩
abbrev S1x16x8x64 : Shape := ⟨4, ![1, 16, 8, 64]⟩
abbrev S16x8x64 : Shape := ⟨3, ![16, 8, 64]⟩
abbrev S16x1x8x64 : Shape := ⟨4, ![16, 1, 8, 64]⟩

abbrev nBuf : Space → Nat
  | .hbm => 6
  | .vmem => 8
  | .smem => 0
  | _ => 0

abbrev bufTy : (tb : Table) → Fin (tcTables nBuf tb) → BufTy
  | .hbm, ⟨0, _⟩ => ⟨S16x1x16x64, .f32⟩
  | .hbm, ⟨1, _⟩ => ⟨S128x16x16x64, .f32⟩
  | .hbm, ⟨2, _⟩ => ⟨S128x16x16x64, .f32⟩
  | .hbm, ⟨3, _⟩ => ⟨S16x128, .i32⟩
  | .hbm, ⟨4, _⟩ => ⟨S16x1, .i32⟩
  | .hbm, ⟨5, _⟩ => ⟨S16x1x16x64, .f32⟩
  | .local _ .vmem, ⟨0, _⟩ => ⟨S16x1x16x64, .f32⟩
  | .local _ .vmem, ⟨1, _⟩ => ⟨S16x128, .i32⟩
  | .local _ .vmem, ⟨2, _⟩ => ⟨S16x1, .i32⟩
  | .local _ .vmem, ⟨3, _⟩ => ⟨S16x1x16x64, .f32⟩
  | .local _ .vmem, ⟨4, _⟩ => ⟨S8x128x16x64, .f32⟩
  | .local _ .vmem, ⟨5, _⟩ => ⟨S8x128x16x64, .f32⟩
  | .local _ .vmem, ⟨6, _⟩ => ⟨S2x16x8x66, .f32⟩
  | .local _ .vmem, ⟨7, _⟩ => ⟨S2x16x8x64, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v14 : BitVec 32 := Scalar.muli v2 c2_i32_7
  let v15 : BitVec 32 := Scalar.addi c0_i32_8 v14
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_5 v5
  let c1_i32_9 : BitVec 32 := 1#32
  let v16 : BitVec 32 := Scalar.muli v13 c1_i32_9
  let v17 : BitVec 32 := Scalar.addi v15 v16
  v17.toNat
def k0_dev2 (d0 : Dev nD) : Nat :=
  let c0_i32_13 : BitVec 32 := 0#32
  let c1_i32_10 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_10 v2
  let c2_i32_12 : BitVec 32 := 2#32
  let v19 : BitVec 32 := Scalar.muli v18 c2_i32_12
  let v20 : BitVec 32 := Scalar.addi c0_i32_13 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v21 : BitVec 32 := Scalar.muli v5 c1_i32_14
  let v22 : BitVec 32 := Scalar.addi v20 v21
  v22.toNat
def k0_dev3 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v81 : BitVec 32 := Scalar.muli v2 c2_i32_34
  let v82 : BitVec 32 := Scalar.addi c0_i32_35 v81
  let c1_i32_31 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v80 : BitVec 32 := Scalar.subi c1_i32_31 v5
  let c1_i32_36 : BitVec 32 := 1#32
  let v83 : BitVec 32 := Scalar.muli v80 c1_i32_36
  let v84 : BitVec 32 := Scalar.addi v82 v83
  v84.toNat
def k0_dev4 (d0 : Dev nD) : Nat :=
  let c0_i32_282 : BitVec 32 := 0#32
  let c1_i32_278 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v341 : BitVec 32 := Scalar.subi c1_i32_278 v2
  let c2_i32_281 : BitVec 32 := 2#32
  let v342 : BitVec 32 := Scalar.muli v341 c2_i32_281
  let v343 : BitVec 32 := Scalar.addi c0_i32_282 v342
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_283 : BitVec 32 := 1#32
  let v344 : BitVec 32 := Scalar.muli v5 c1_i32_283
  let v345 : BitVec 32 := Scalar.addi v343 v344
  v345.toNat
abbrev stage0_0 : Fin 1 → Memref sig .tc .vmem S16x1x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16x1 : Shape := ⟨2, ![16, 1]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S16x16x1x2048 : Shape := ⟨4, ![16, 16, 1, 2048]⟩
abbrev S128 : Shape := ⟨1, ![128]⟩
abbrev S1x128 : Shape := ⟨2, ![1, 128]⟩
abbrev S16x128x16 : Shape := ⟨3, ![16, 128, 16]⟩
abbrev S16x2048 : Shape := ⟨2, ![16, 2048]⟩
abbrev S16x1x1x2048 : Shape := ⟨4, ![16, 1, 1, 2048]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 55
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S256x16x16x64, .f32⟩
  | .hbm, ⟨2, _⟩ => ⟨S256x16x16x64, .f32⟩
  | .hbm, ⟨3, _⟩ => ⟨S16x128, .i32⟩
  | .hbm, ⟨4, _⟩ => ⟨S16x1, .i32⟩
  | .hbm, ⟨5, _⟩ => ⟨S_, .i32⟩
  | .hbm, ⟨6, _⟩ => ⟨S16x128, .i32⟩
  | .hbm, ⟨7, _⟩ => ⟨S16x128, .i1⟩
  | .hbm, ⟨8, _⟩ => ⟨S_, .i32⟩
  | .hbm, ⟨9, _⟩ => ⟨S16x128, .i32⟩
  | .hbm, ⟨10, _⟩ => ⟨S16x128, .i32⟩
  | .hbm, ⟨11, _⟩ => ⟨S16x128, .i32⟩
  | .hbm, ⟨12, _⟩ => ⟨S16x128x1, .i32⟩
  | .hbm, ⟨13, _⟩ => ⟨S16x128x16x16x64, .f32⟩
  | .hbm, ⟨14, _⟩ => ⟨S16x2048x16x64, .f32⟩
  | .hbm, ⟨15, _⟩ => ⟨S_, .i32⟩
  | .hbm, ⟨16, _⟩ => ⟨S16x128, .i32⟩
  | .hbm, ⟨17, _⟩ => ⟨S16x128, .i1⟩
  | .hbm, ⟨18, _⟩ => ⟨S_, .i32⟩
  | .hbm, ⟨19, _⟩ => ⟨S16x128, .i32⟩
  | .hbm, ⟨20, _⟩ => ⟨S16x128, .i32⟩
  | .hbm, ⟨21, _⟩ => ⟨S16x128, .i32⟩
  | .hbm, ⟨22, _⟩ => ⟨S16x128x1, .i32⟩
  | .hbm, ⟨23, _⟩ => ⟨S16x128x16x16x64, .f32⟩
  | .hbm, ⟨24, _⟩ => ⟨S16x2048x16x64, .f32⟩
  | .hbm, ⟨25, _⟩ => ⟨S16x16x1x2048, .f32⟩
  | .hbm, ⟨26, _⟩ => ⟨S_, .f32⟩
  | .hbm, ⟨27, _⟩ => ⟨S16x16x1x2048, .f32⟩
  | .hbm, ⟨28, _⟩ => ⟨S16x16x1x2048, .f32⟩
  | .hbm, ⟨29, _⟩ => ⟨S128, .i32⟩
  | .hbm, ⟨30, _⟩ => ⟨S1x128, .i32⟩
  | .hbm, ⟨31, _⟩ => ⟨S16x128, .i32⟩
  | .hbm, ⟨32, _⟩ => ⟨S16x128, .i32⟩
  | .hbm, ⟨33, _⟩ => ⟨S16x128, .i1⟩
  | .hbm, ⟨34, _⟩ => ⟨S16x128x16, .i1⟩
  | .hbm, ⟨35, _⟩ => ⟨S16x2048, .i1⟩
  | .hbm, ⟨36, _⟩ => ⟨S16x1x1x2048, .i1⟩
  | .hbm, ⟨37, _⟩ => ⟨S_, .f32⟩
  | .hbm, ⟨38, _⟩ => ⟨S_, .f32⟩
  | .hbm, ⟨39, _⟩ => ⟨S16x16x1x2048, .i1⟩
  | .hbm, ⟨40, _⟩ => ⟨S16x16x1x2048, .f32⟩
  | .hbm, ⟨41, _⟩ => ⟨S16x16x1x2048, .f32⟩
  | .hbm, ⟨42, _⟩ => ⟨S_, .f32⟩
  | .hbm, ⟨43, _⟩ => ⟨S16x16x1, .f32⟩
  | .hbm, ⟨44, _⟩ => ⟨S16x16x1x1, .f32⟩
  | .hbm, ⟨45, _⟩ => ⟨S16x16x1x2048, .f32⟩
  | .hbm, ⟨46, _⟩ => ⟨S16x16x1x2048, .f32⟩
  | .hbm, ⟨47, _⟩ => ⟨S16x16x1x2048, .f32⟩
  | .hbm, ⟨48, _⟩ => ⟨S_, .f32⟩
  | .hbm, ⟨49, _⟩ => ⟨S16x16x1, .f32⟩
  | .hbm, ⟨50, _⟩ => ⟨S16x16x1x1, .f32⟩
  | .hbm, ⟨51, _⟩ => ⟨S16x16x1x2048, .f32⟩
  | .hbm, ⟨52, _⟩ => ⟨S16x16x1x2048, .f32⟩
  | .hbm, ⟨53, _⟩ => ⟨S16x16x64x1, .f32⟩
  | .hbm, ⟨54, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.Protocol.lean ====
/-
# The exchange protocol

Four devices stand on a 2 × 2 mesh, device `2·x + y` at `(x, y)`. Each hands the other device of its row (`ypeer`)
its half of the softmax partials, then the other device of its column (`xpeer`) its half of the heads. Both copies
are announced on the runtime's barrier semaphore: a device signals both peers and waits for both, so that it copies
into a peer's buffer only after that peer has entered the kernel.

A device's barrier cell therefore has two duties, one per peer, each handing over that peer's landing half; the four
copy cells have one duty each. The contents the copies carry are parameters here (`cm`, `fm`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the exchange's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER (F := F) : Emb UB 𝕄).LandsIn (upEmb : UEmb _ 𝕄) := by unfold ER; infer_instance

/-! ## The mesh -/

set_option backward.proofsInPublic true in
/-- The other device of the row. -/
def ypeer (c : Dev nD) : Dev nD := ⟨if c.val % 2 = 0 then c.val + 1 else c.val - 1, by have h : c.val < 4 := c.isLt; show _ < 4; split <;> omega⟩
set_option backward.proofsInPublic true in
/-- The other device of the column. -/
def xpeer (c : Dev nD) : Dev nD := ⟨(c.val + 2) % 4, Nat.mod_lt _ (by decide)⟩

theorem ypeer_ypeer (c : Dev nD) : ypeer (ypeer c) = c := by revert c; decide
theorem xpeer_xpeer (c : Dev nD) : xpeer (xpeer c) = c := by revert c; decide
theorem ypeer_ne_xpeer (c : Dev nD) : ypeer c ≠ xpeer c := by revert c; decide

theorem dev1_eq (c : Dev nD) : (⟨k0_dev1 c, k0_dev1_lt c⟩ : Dev nD) = ypeer c := by revert c; decide
theorem dev2_eq (c : Dev nD) : (⟨k0_dev2 c, k0_dev2_lt c⟩ : Dev nD) = xpeer c := by revert c; decide
theorem dev3_eq (c : Dev nD) : (⟨k0_dev3 c, k0_dev3_lt c⟩ : Dev nD) = ypeer c := by revert c; decide
theorem dev4_eq (c : Dev nD) : (⟨k0_dev4 c, k0_dev4_lt c⟩ : Dev nD) = xpeer c := by revert c; decide

def yring : Dev nD ≃ Dev nD := ⟨ypeer, ypeer, ypeer_ypeer, ypeer_ypeer⟩
def xring : Dev nD ≃ Dev nD := ⟨xpeer, xpeer, xpeer_xpeer, xpeer_xpeer⟩

/-! ## The buffers -/

abbrev qM : Memref sig .tc .vmem S16x1x16x64 .f32 := Memref.whole cc0_stg0_0
abbrev bM : Memref sig .tc .vmem S16x128 .i32 := Memref.whole cc0_stg1_0
abbrev lM : Memref sig .tc .vmem S16x1 .i32 := Memref.whole cc0_stg2_0
abbrev oM : Memref sig .tc .vmem S16x1x16x64 .f32 := Memref.whole cc0_stg3_0
abbrev kM : Memref sig .tc .hbm S128x16x16x64 .f32 := Memref.whole main_arg1
abbrev vM : Memref sig .tc .hbm S128x16x16x64 .f32 := Memref.whole main_arg2
abbrev ksM : Memref sig .tc .vmem S8x128x16x64 .f32 := Memref.whole cc0_scratch0
abbrev vsM : Memref sig .tc .vmem S8x128x16x64 .f32 := Memref.whole cc0_scratch1
/-- The partials: half 0 this device's, half 1 the row peer's. -/
abbrev cM : Memref sig .tc .vmem S2x16x8x66 .f32 := Memref.whole cc0_scratch2
/-- The finished heads: half 0 this device's, half 1 the column peer's. -/
abbrev fM : Memref sig .tc .vmem S2x16x8x64 .f32 := Memref.whole cc0_scratch3

abbrev cR0 : Rect S2x16x8x66 := Rect.unit (s := S2x16x8x66) ![0, 0, 0, 0] S1x16x8x66.size inb_S2x16x8x66_S1x16x8x66_0_0_0_0
abbrev cR1 : Rect S2x16x8x66 := Rect.unit (s := S2x16x8x66) ![1, 0, 0, 0] S1x16x8x66.size inb_S2x16x8x66_S1x16x8x66_1_0_0_0
abbrev fR0 : Rect S2x16x8x64 := Rect.unit (s := S2x16x8x64) ![0, 0, 0, 0] S1x16x8x64.size inb_S2x16x8x64_S1x16x8x64_0_0_0_0
abbrev fR1 : Rect S2x16x8x64 := Rect.unit (s := S2x16x8x64) ![1, 0, 0, 0] S1x16x8x64.size inb_S2x16x8x64_S1x16x8x64_1_0_0_0

abbrev cH0 : Memref sig .tc .vmem S16x8x66 .f32 := (cM.slice cR0 (fun _ => rfl)).squeeze S16x8x66 squeezes_S1x16x8x66_S16x8x66
abbrev cH1 : Memref sig .tc .vmem S16x8x66 .f32 := (cM.slice cR1 (fun _ => rfl)).squeeze S16x8x66 squeezes_S1x16x8x66_S16x8x66
abbrev fH0 : Memref sig .tc .vmem S16x8x64 .f32 := (fM.slice fR0 (fun _ => rfl)).squeeze S16x8x64 squeezes_S1x16x8x64_S16x8x64
abbrev fH1 : Memref sig .tc .vmem S16x8x64 .f32 := (fM.slice fR1 (fun _ => rfl)).squeeze S16x8x64 squeezes_S1x16x8x64_S16x8x64

/-! ## The cells -/

/-- The runtime's barrier semaphore, and the send and receive cells of the two copies. -/
abbrev barS : Sem sig := (SemArray.scalar (sig.barrier 0 rfl) : Sems sig S_).sem
abbrev ysS : DmaSem sig := (cc0_scratch6 : DmaSems sig S_).sem
abbrev yrS : DmaSem sig := (cc0_scratch7 : DmaSems sig S_).sem
abbrev xsS : DmaSem sig := (cc0_scratch8 : DmaSems sig S_).sem
abbrev xrS : DmaSem sig := (cc0_scratch9 : DmaSems sig S_).sem

abbrev barCell (c : Dev nD) : GSem nD τ sig := ((c : Thread nD τ), .reg barS)
abbrev ysCell (c : Dev nD) : GSem nD τ sig := ((c : Thread nD τ), .dma ysS)
abbrev yrCell (c : Dev nD) : GSem nD τ sig := ((c : Thread nD τ), .dma yrS)
abbrev xsCell (c : Dev nD) : GSem nD τ sig := ((c : Thread nD τ), .dma xsS)
abbrev xrCell (c : Dev nD) : GSem nD τ sig := ((c : Thread nD τ), .dma xrS)

/-- The five cells of the exchange, as the launch allocates them. -/
abbrev csem : Fin 5 → SemLoc sig := fun | 0 => .reg barS | 1 => .dma ysS | 2 => .dma yrS | 3 => .dma xsS | 4 => .dma xrS
abbrev kcell (ck : Dev nD × Fin 5) : GSem nD τ sig := ((ck.1 : Thread nD τ), csem ck.2)

abbrev Ny : ℕ := cH1.view.dmaCredit
abbrev Nx : ℕ := fH1.view.dmaCredit
theorem Ny_pos : 0 < Ny := View.dmaCredit_pos _ (by decide)
theorem Nx_pos : 0 < Nx := View.dmaCredit_pos _ (by decide)

/-! ## What the copies carry -/

abbrev CBuf (F : FTy → Type) : Type := (cc0_scratch2 : Ref sig .tc).ty.Contents (Elt F)
abbrev FBuf (F : FTy → Type) : Type := (cc0_scratch3 : Ref sig .tc).ty.Contents (Elt F)

variable (cm : Dev nD → CBuf F) (fm : Dev nD → FBuf F)

/-- The four halves, as rectangles of their buffers. -/
abbrev cPts0 (c : Dev nD) (f : CBuf F) : sProp 𝕄 := cM.view.loc (c : Thread nD τ) ↦[cM.view.setOn cR0.set]{fullShare} f
abbrev cPts1 (c : Dev nD) (f : CBuf F) : sProp 𝕄 := cM.view.loc (c : Thread nD τ) ↦[cM.view.setOn cR1.set]{fullShare} f
abbrev fPts0 (c : Dev nD) (f : FBuf F) : sProp 𝕄 := fM.view.loc (c : Thread nD τ) ↦[fM.view.setOn fR0.set]{fullShare} f
abbrev fPts1 (c : Dev nD) (f : FBuf F) : sProp 𝕄 := fM.view.loc (c : Thread nD τ) ↦[fM.view.setOn fR1.set]{fullShare} f

theorem cH0_set : cH0.view.set = cM.view.setOn cR0.set := (View.set_reshape _ _).trans (View.set_slice _ _)
theorem cH1_set : cH1.view.set = cM.view.setOn cR1.set := (View.set_reshape _ _).trans (View.set_slice _ _)
theorem fH0_set : fH0.view.set = fM.view.setOn fR0.set := (View.set_reshape _ _).trans (View.set_slice _ _)
theorem fH1_set : fH1.view.set = fM.view.setOn fR1.set := (View.set_reshape _ _).trans (View.set_slice _ _)

omit [FloatOps F] in
/-- A half through the view of its copy. -/
theorem cView0 (c : Dev nD) (f : CBuf F) : (cPts0 c f : sProp 𝕄) = cH0.view.loc (c : Thread nD τ) ↦[cH0.view.set]{fullShare} f := by rw [cH0_set]
omit [FloatOps F] in
theorem cView1 (c : Dev nD) (f : CBuf F) : (cPts1 c f : sProp 𝕄) = cH1.view.loc (c : Thread nD τ) ↦[cH1.view.set]{fullShare} f := by rw [cH1_set]
omit [FloatOps F] in
theorem fView0 (c : Dev nD) (f : FBuf F) : (fPts0 c f : sProp 𝕄) = fH0.view.loc (c : Thread nD τ) ↦[fH0.view.set]{fullShare} f := by rw [fH0_set]
omit [FloatOps F] in
theorem fView1 (c : Dev nD) (f : FBuf F) : (fPts1 c f : sProp 𝕄) = fH1.view.loc (c : Thread nD τ) ↦[fH1.view.set]{fullShare} f := by rw [fH1_set]

/-- What a landing half holds after the copy of half 0 of `g` into it. -/
def landC (g : CBuf F) : CBuf F := cH1.view.write (Elt F) g (cH0.view.read (Elt F) g) Finset.univ
def landF (g : FBuf F) : FBuf F := fH1.view.write (Elt F) g (fH0.view.read (Elt F) g) Finset.univ

omit [FloatOps F] in
/-- Whatever it held before. -/
theorem landC_of (c : Dev nD) (f g : CBuf F) :
    (cH1.view.loc (c : Thread nD τ) ↦[cH1.view.set]{fullShare} cH1.view.write (Elt F) f (cH0.view.read (Elt F) g) Finset.univ : sProp 𝕄) = cPts1 c (landC g) :=
  (View.pointsTo_write_univ_congr (c : Thread nD τ) cH1.view fullShare f g _).trans (cView1 c (landC g)).symm
omit [FloatOps F] in
theorem landF_of (c : Dev nD) (f g : FBuf F) :
    (fH1.view.loc (c : Thread nD τ) ↦[fH1.view.set]{fullShare} fH1.view.write (Elt F) f (fH0.view.read (Elt F) g) Finset.univ : sProp 𝕄) = fPts1 c (landF g) :=
  (View.pointsTo_write_univ_congr (c : Thread nD τ) fH1.view fullShare f g _).trans (fView1 c (landF g)).symm

omit [FloatOps F] in
instance cPts0_storable (c : Dev nD) (f) : BI.Storable (upEmb : UEmb _ 𝕄) (cPts0 (F := F) c f) := by unfold cPts0; infer_instance
omit [FloatOps F] in
instance cPts1_storable (c : Dev nD) (f) : BI.Storable (upEmb : UEmb _ 𝕄) (cPts1 (F := F) c f) := by unfold cPts1; infer_instance
omit [FloatOps F] in
instance fPts0_storable (c : Dev nD) (f) : BI.Storable (upEmb : UEmb _ 𝕄) (fPts0 (F := F) c f) := by unfold fPts0; infer_instance
omit [FloatOps F] in
instance fPts1_storable (c : Dev nD) (f) : BI.Storable (upEmb : UEmb _ 𝕄) (fPts1 (F := F) c f) := by unfold fPts1; infer_instance

/-! ## The schedule -/

/-- What the row peer's signal hands over: its landing half of the partials, and its receive cell at round 0. -/
abbrev barPayY (c : Dev nD) : sProp 𝕄 := iprop((∃ f, cPts1 (ypeer c) f) ∗ reached ER (yrCell (ypeer c)) 0)
/-- What the column peer's signal hands over: its landing half of the heads, and its receive cell at round 0. -/
abbrev barPayX (c : Dev nD) : sProp 𝕄 := iprop((∃ f, fPts1 (xpeer c) f) ∗ reached ER (xrCell (xpeer c)) 0)

abbrev IsBar (g : GSem nD τ sig) : Prop := g.1.2 = .tc ∧ g.2 = .reg barS
abbrev IsCopy (g : GSem nD τ sig) : Prop := g.1.2 = .tc ∧ (g.2 = .dma ysS ∨ g.2 = .dma yrS ∨ g.2 = .dma xsS ∨ g.2 = .dma xrS)

/-- One round: a barrier cell has the duties `false` (the row peer's) and `true` (the column peer's), a copy cell
    the one duty `false` of the copy's credit. -/
def sched : Rounds.Schedule (GSem nD τ sig) Bool 𝕄 where
  duties g r := if r = 0 ∧ IsBar g then Finset.univ else if r = 0 ∧ IsCopy g then {false} else ∅
  unitless _ := False
  amount g _ _ := if g.2 = .reg barS then 1 else if g.2 = .dma xsS ∨ g.2 = .dma xrS then Nx else Ny
  payload g _ d :=
    if g.2 = .reg barS then (if d then barPayX g.1.1 else barPayY g.1.1)
    else if g.2 = .dma ysS then cPts0 g.1.1 (cm g.1.1)
    else if g.2 = .dma yrS then cPts1 g.1.1 (landC (cm (ypeer g.1.1)))
    else if g.2 = .dma xsS then fPts0 g.1.1 (fm g.1.1)
    else if g.2 = .dma xrS then fPts1 g.1.1 (landF (fm (xpeer g.1.1)))
    else iprop(emp)
  amount_pos g _ _ _ := by
    split
    · exact Nat.one_pos
    · split
      · exact Nx_pos
      · exact Ny_pos

instance sched_payload_storable (g : GSem nD τ sig) (r : ℕ) (d : Bool) :
    BI.Storable (upEmb : UEmb _ 𝕄) ((sched (F := F) cm fm).payload g r d) := by
  dsimp only [sched]
  unfold barPayX barPayY
  (repeat' split) <;> infer_instance

section Sched
variable (c : Dev nD)

theorem ys_ne_bar : (SemLoc.dma ysS : SemLoc sig) ≠ .reg barS := fun h => by cases h
theorem yr_ne_bar : (SemLoc.dma yrS : SemLoc sig) ≠ .reg barS := fun h => by cases h
theorem xs_ne_bar : (SemLoc.dma xsS : SemLoc sig) ≠ .reg barS := fun h => by cases h
theorem xr_ne_bar : (SemLoc.dma xrS : SemLoc sig) ≠ .reg barS := fun h => by cases h
theorem yr_ne_ys : (SemLoc.dma yrS : SemLoc sig) ≠ .dma ysS := by decide
theorem xs_ne_ys : (SemLoc.dma xsS : SemLoc sig) ≠ .dma ysS := by decide
theorem xr_ne_ys : (SemLoc.dma xrS : SemLoc sig) ≠ .dma ysS := by decide
theorem xs_ne_yr : (SemLoc.dma xsS : SemLoc sig) ≠ .dma yrS := by decide
theorem xr_ne_yr : (SemLoc.dma xrS : SemLoc sig) ≠ .dma yrS := by decide
theorem xr_ne_xs : (SemLoc.dma xrS : SemLoc sig) ≠ .dma xsS := by decide
theorem ys_ne_x : ¬((SemLoc.dma ysS : SemLoc sig) = .dma xsS ∨ (SemLoc.dma ysS : SemLoc sig) = .dma xrS) := by decide
theorem yr_ne_x : ¬((SemLoc.dma yrS : SemLoc sig) = .dma xsS ∨ (SemLoc.dma yrS : SemLoc sig) = .dma xrS) := by decide

omit [FloatOps F] in
theorem duties_bar : (sched (F := F) cm fm).duties (barCell c) 0 = Finset.univ := by dsimp only [sched]; exact if_pos ⟨rfl, rfl, rfl⟩
omit [FloatOps F] in
theorem duties_copy (s : DmaSem sig) (hs : SemLoc.dma s = .dma ysS ∨ SemLoc.dma s = .dma yrS ∨ SemLoc.dma s = .dma xsS ∨ (SemLoc.dma s : SemLoc sig) = .dma xrS) :
    (sched (F := F) cm fm).duties ((c : Thread nD τ), .dma s) 0 = {false} := by
  dsimp only [sched]; rw [if_neg (fun h => by cases h.2.2)]; exact if_pos ⟨rfl, rfl, hs⟩
omit [FloatOps F] in
theorem duties_ys : (sched (F := F) cm fm).duties (ysCell c) 0 = {false} := duties_copy cm fm c _ (.inl rfl)
omit [FloatOps F] in
theorem duties_yr : (sched (F := F) cm fm).duties (yrCell c) 0 = {false} := duties_copy cm fm c _ (.inr (.inl rfl))
omit [FloatOps F] in
theorem duties_xs : (sched (F := F) cm fm).duties (xsCell c) 0 = {false} := duties_copy cm fm c _ (.inr (.inr (.inl rfl)))
omit [FloatOps F] in
theorem duties_xr : (sched (F := F) cm fm).duties (xrCell c) 0 = {false} := duties_copy cm fm c _ (.inr (.inr (.inr rfl)))
omit [FloatOps F] in
theorem duties_later (g : GSem nD τ sig) : ∀ r, 1 ≤ r → (sched (F := F) cm fm).duties g r = ∅ :=
  fun r hr => by dsimp only [sched]; rw [if_neg fun h => by omega, if_neg fun h => by omega]

omit [FloatOps F] in
theorem amount_bar (d : Bool) : (sched (F := F) cm fm).amount (barCell c) 0 d = 1 := by dsimp only [sched]; exact if_pos rfl
omit [FloatOps F] in
theorem amount_ys (d : Bool) : (sched (F := F) cm fm).amount (ysCell c) 0 d = Ny := by dsimp only [sched]; rw [if_neg ys_ne_bar, if_neg ys_ne_x]
omit [FloatOps F] in
theorem amount_yr (d : Bool) : (sched (F := F) cm fm).amount (yrCell c) 0 d = Ny := by dsimp only [sched]; rw [if_neg yr_ne_bar, if_neg yr_ne_x]
omit [FloatOps F] in
theorem amount_xs (d : Bool) : (sched (F := F) cm fm).amount (xsCell c) 0 d = Nx := by dsimp only [sched]; rw [if_neg xs_ne_bar, if_pos (.inl rfl)]
omit [FloatOps F] in
theorem amount_xr (d : Bool) : (sched (F := F) cm fm).amount (xrCell c) 0 d = Nx := by dsimp only [sched]; rw [if_neg xr_ne_bar, if_pos (.inr rfl)]

omit [FloatOps F] in
theorem expect_bar : (sched (F := F) cm fm).expect (barCell c) 0 = 2 := by
  unfold Schedule.expect Schedule.amountOf
  rw [duties_bar, Finset.sum_congr rfl fun d _ => amount_bar cm fm c d, Finset.sum_const, Finset.card_univ, Fintype.card_bool, smul_eq_mul]
omit [FloatOps F] in
theorem expect_ys : (sched (F := F) cm fm).expect (ysCell c) 0 = Ny := by
  unfold Schedule.expect Schedule.amountOf; rw [duties_ys, Finset.sum_singleton, amount_ys]
omit [FloatOps F] in
theorem expect_yr : (sched (F := F) cm fm).expect (yrCell c) 0 = Ny := by
  unfold Schedule.expect Schedule.amountOf; rw [duties_yr, Finset.sum_singleton, amount_yr]
omit [FloatOps F] in
theorem expect_xs : (sched (F := F) cm fm).expect (xsCell c) 0 = Nx := by
  unfold Schedule.expect Schedule.amountOf; rw [duties_xs, Finset.sum_singleton, amount_xs]
omit [FloatOps F] in
theorem expect_xr : (sched (F := F) cm fm).expect (xrCell c) 0 = Nx := by
  unfold Schedule.expect Schedule.amountOf; rw [duties_xr, Finset.sum_singleton, amount_xr]

omit [FloatOps F] in
theorem payload_bar_y : (sched (F := F) cm fm).payload (barCell c) 0 false = barPayY c := by
  dsimp only [sched]; rw [if_pos rfl]; exact if_neg Bool.false_ne_true
omit [FloatOps F] in
theorem payload_bar_x : (sched (F := F) cm fm).payload (barCell c) 0 true = barPayX c := by
  dsimp only [sched]; rw [if_pos rfl, if_pos rfl]
omit [FloatOps F] in
theorem pay_y : (sched (F := F) cm fm).payload (barCell c) 0 false = iprop((∃ f, cPts1 (ypeer c) f) ∗ reached ER (yrCell (ypeer c)) 0) :=
  payload_bar_y cm fm c
omit [FloatOps F] in
theorem pay_x : (sched (F := F) cm fm).payload (barCell c) 0 true = iprop((∃ f, fPts1 (xpeer c) f) ∗ reached ER (xrCell (xpeer c)) 0) :=
  payload_bar_x cm fm c
omit [FloatOps F] in
theorem payload_ys (d : Bool) : (sched (F := F) cm fm).payload (ysCell c) 0 d = cPts0 c (cm c) := by
  dsimp only [sched]; rw [if_neg ys_ne_bar, if_pos rfl]
omit [FloatOps F] in
theorem payload_yr (d : Bool) : (sched (F := F) cm fm).payload (yrCell c) 0 d = cPts1 c (landC (cm (ypeer c))) := by
  dsimp only [sched]; rw [if_neg yr_ne_bar, if_neg yr_ne_ys, if_pos rfl]
omit [FloatOps F] in
theorem payload_xs (d : Bool) : (sched (F := F) cm fm).payload (xsCell c) 0 d = fPts0 c (fm c) := by
  dsimp only [sched]; rw [if_neg xs_ne_bar, if_neg xs_ne_ys, if_neg xs_ne_yr, if_pos rfl]
omit [FloatOps F] in
theorem payload_xr (d : Bool) : (sched (F := F) cm fm).payload (xrCell c) 0 d = fPts1 c (landF (fm (xpeer c))) := by
  dsimp only [sched]; rw [if_neg xr_ne_bar, if_neg xr_ne_ys, if_neg xr_ne_yr, if_neg xr_ne_xs, if_pos rfl]

omit [FloatOps F] in
/-- A copy cell's round hands back its one payload. -/
theorem rest_one (g : GSem nD τ sig) (h : (sched (F := F) cm fm).duties g 0 = {false}) :
    bigSep ((sched (F := F) cm fm).duties g 0 \ ∅) (fun d => (sched (F := F) cm fm).payload g 0 d) = (sched (F := F) cm fm).payload g 0 false := by
  rw [Finset.sdiff_empty, h, bigSep_singleton]
omit [FloatOps F] in
/-- A barrier cell's round hands over both peers' payloads. -/
theorem rest_bar : bigSep ((sched (F := F) cm fm).duties (barCell c) 0 \ ∅) (fun d => (sched (F := F) cm fm).payload (barCell c) 0 d)
    = iprop(barPayY c ∗ barPayX c) := by
  rw [Finset.sdiff_empty, duties_bar, bigSep_univ_eq_bigSepL [false, true] (by decide) (by decide), bigSepL_cons_cons, bigSepL_singleton,
    payload_bar_y, payload_bar_x]
  rfl

end Sched

/-! ## What a device owes; the levels -/

/-- What is owed after both signals: the two copies' credits. -/
def O₂ (c : Dev nD) : CellTallies nD τ sig Unit := tallyAt (xrCell (xpeer c)) () Nx + tallyAt (yrCell (ypeer c)) () Ny
/-- After the first signal: the column peer's barrier unit too. -/
def O₁ (c : Dev nD) : CellTallies nD τ sig Unit := O₂ c + tallyAt (barCell (xpeer c)) () 1
/-- At launch: both peers' barrier units. -/
def O₀ (c : Dev nD) : CellTallies nD τ sig Unit := O₁ c + tallyAt (barCell (ypeer c)) () 1

def L (g : GSem nD τ sig) : Finset Unit := if g.1.2 = .tc then {()} else ∅
/-- Barrier cells at 1, the row copy's receive cells at 2, the column copy's at 3, every other cell at 0. -/
def lv (g : GSem nD τ sig) (_ : Unit) : ℕ :=
  if g.2 = .reg barS then 1 else if g.2 = .dma yrS then 2 else if g.2 = .dma xrS then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_yr (c : Dev nD) (u : Unit) : lv (yrCell c) u = 2 := by dsimp only [lv]; rw [if_neg yr_ne_bar, if_pos rfl]
theorem lv_xr (c : Dev nD) (u : Unit) : lv (xrCell c) u = 3 := by dsimp only [lv]; rw [if_neg xr_ne_bar, if_neg xr_ne_yr, if_pos rfl]

/-- A tally of one cell is positive at that cell alone. -/
theorem tally_pos {g g' : GSem nD τ sig} {u u' : Unit} {n : ℕ} (h : 0 < (tallyAt g u n : CellTallies nD τ sig Unit) g' u') : g' = g := by
  rw [tallyAt_apply] at h
  by_contra hn
  rw [if_neg (fun h' => hn h'.1)] at h
  exact Nat.lt_irrefl 0 h

theorem O₂_pos {c : Dev nD} {g : GSem nD τ sig} {u : Unit} (h : 0 < O₂ c g u) : g = xrCell (xpeer c) ∨ g = yrCell (ypeer c) := by
  unfold O₂ at h
  rw [Pi.add_apply, Finsupp.add_apply] at h
  rcases Nat.add_pos_iff_pos_or_pos.mp h with h | h
  · exact .inl (tally_pos h)
  · exact .inr (tally_pos h)

theorem O₀_pos {c : Dev nD} {g : GSem nD τ sig} {u : Unit} (h : 0 < O₀ c g u) :
    (g = xrCell (xpeer c) ∨ g = yrCell (ypeer c)) ∨ g = barCell (xpeer c) ∨ g = barCell (ypeer c) := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · exact .inl (O₂_pos h)
    · exact .inr (.inl (tally_pos h))
  · exact .inr (.inr (tally_pos h))

omit [FloatOps F] in
/-- A wait at level `k` is allowed while everything owed lies on cells of the TensorCores above `k`. -/
theorem mayWait_of (c : Dev nD) (sm : SemLoc sig) (k : ℕ) (hk : lv ((c : Thread nD τ), sm) () = k) (O : CellTallies nD τ sig Unit)
    (hO : ∀ g u, 0 < O g u → () ∈ L g ∧ k < lv g u) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => (hO g u hg).1)
    (fun p hp => by rw [Finset.mem_singleton.mp hp]; exact le_of_eq hk)
    (fun g u hg => (hO g u hg).2)

theorem O₂_above {c : Dev nD} {g : GSem nD τ sig} {u : Unit} (h : 0 < O₂ c g u) : () ∈ L g ∧ 1 < lv g u := by
  rcases O₂_pos h with rfl | rfl
  · rw [L_tc, lv_xr]; exact ⟨Finset.mem_singleton_self _, by decide⟩
  · rw [L_tc, lv_yr]; exact ⟨Finset.mem_singleton_self _, by decide⟩

omit [FloatOps F] in
/-- A cell at level 0 may be waited on whatever of the launch's debt is left. -/
theorem mayWait_low (c : Dev nD) (s : DmaSem sig) (hs : lv ((c : Thread nD τ), .dma s) () = 0) (O : CellTallies nD τ sig Unit)
    (hO : O = O₀ c ∨ O = O₂ c ∨ O = tallyAt (xrCell (xpeer c)) () Nx ∨ O = 0) :
    (levAts L lv : sProp 𝕄) ⊢ MayWait (c : Thread nD τ) (.dma s) () O := by
  rcases hO with rfl | rfl | rfl | rfl
  · refine mayWait_of c _ 0 hs _ fun g u h => ?_
    rcases O₀_pos h with (rfl | rfl) | rfl | rfl
    · rw [L_tc, lv_xr]; exact ⟨Finset.mem_singleton_self _, by decide⟩
    · rw [L_tc, lv_yr]; exact ⟨Finset.mem_singleton_self _, by decide⟩
    · rw [L_tc, lv_bar]; exact ⟨Finset.mem_singleton_self _, by decide⟩
    · rw [L_tc, lv_bar]; exact ⟨Finset.mem_singleton_self _, by decide⟩
  · exact mayWait_of c _ 0 hs _ fun g u h => ⟨(O₂_above h).1, Nat.lt_trans Nat.zero_lt_one (O₂_above h).2⟩
  · refine mayWait_of c _ 0 hs _ fun g u h => ?_
    rw [tally_pos h, L_tc, lv_xr]; exact ⟨Finset.mem_singleton_self _, by decide⟩
  · rw [MayWait_zero]; iintro -; iempintro

omit [FloatOps F] in
/-- At the barrier both copies' credits are owed, on receive cells. -/
theorem mayWait_bar (c : Dev nD) : (levAts L lv : sProp 𝕄) ⊢ MayWait (c : Thread nD τ) (.reg barS) () (O₂ c) :=
  mayWait_of c _ 1 (lv_bar c ()) _ fun g u h => O₂_above h
omit [FloatOps F] in
/-- At the row copy's arrival the column copy's credit is owed. -/
theorem mayWait_yr (c : Dev nD) : (levAts L lv : sProp 𝕄) ⊢ MayWait (c : Thread nD τ) (.dma yrS) () (tallyAt (xrCell (xpeer c)) () Nx) := by
  refine mayWait_of c _ 2 (lv_yr c ()) _ fun g u h => ?_
  rw [tally_pos h, L_tc, lv_xr]; exact ⟨Finset.mem_singleton_self _, by decide⟩

end Cert.Paged
-- ==== Proof.Contents.lean ====
/-
# What the buffers hold

The softmax partials of a device, head by head, the heads its row finishes from two devices' partials, and the
result. One head's three columns of partials are written once for every head and for both halves of the heads; the
finished heads once for every head.
-/
module

public import proofs.«01_k».proof.Proof.Protocol

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The slots of the two staging buffers -/

theorem slot_inb (j : Fin 8) : ∀ a, (![j.val, 0, 0, 0] : Fin 4 → ℕ) a + S1x128x16x64.size a ≤ S8x128x16x64.size a := by revert j; decide
theorem cell_inb (j : Fin 8) : ∀ a, (![j.val] : Fin 1 → ℕ) a + S1.size a ≤ S8.size a := by revert j; decide

/-- The semaphores of the copies into slot `j`. -/
abbrev kd (j : Fin 8) : DmaSem sig :=
  (((cc0_scratch4 : DmaSems sig S8).slice (Rect.unit (s := S8) ![j.val] S1.size (cell_inb j))).squeeze S_ squeezes_S1_S_).sem
abbrev vd (j : Fin 8) : DmaSem sig :=
  (((cc0_scratch5 : DmaSems sig S8).slice (Rect.unit (s := S8) ![j.val] S1.size (cell_inb j))).squeeze S_ squeezes_S1_S_).sem

abbrev slotR (j : Fin 8) : Rect S8x128x16x64 := Rect.unit (s := S8x128x16x64) ![j.val, 0, 0, 0] S1x128x16x64.size (slot_inb j)
/-- Slot `j` of the keys' and of the values' staging buffer. -/
abbrev ksH (j : Fin 8) : Memref sig .tc .vmem S128x16x64 .f32 :=
  (ksM.slice (slotR j) (fun _ => rfl)).squeeze S128x16x64 squeezes_S1x128x16x64_S128x16x64
abbrev vsH (j : Fin 8) : Memref sig .tc .vmem S128x16x64 .f32 :=
  (vsM.slice (slotR j) (fun _ => rfl)).squeeze S128x16x64 squeezes_S1x128x16x64_S128x16x64

/-! ## The partials -/

/-- The row and the column of a device. -/
def xOf (c : Dev nD) : Fin 2 := ⟨c.val / 2, by have h : c.val < 4 := c.isLt; omega⟩
def yOf (c : Dev nD) : Fin 2 := ⟨c.val % 2, Nat.mod_lt _ (by decide)⟩

/-- Head `j` of half `x` of the heads. -/
abbrev head (x : Fin 2) (j : Fin 8) : ℕ := 8 * x.val + j.val

theorem q_inb (x : Fin 2) (j : Fin 8) : ∀ a, (![0, 0, head x j, 0] : Fin 4 → ℕ) a + S16x1x1x64.size a ≤ S16x1x16x64.size a := by
  revert x j; decide
theorem kv_inb (x : Fin 2) (j : Fin 8) : ∀ a, (![0, 0, head x j, 0] : Fin 4 → ℕ) a + S128x16x1x64.size a ≤ S128x16x16x64.size a := by
  revert x j; decide

abbrev QBuf (F : FTy → Type) : Type := (cc0_stg0_0 : Ref sig .tc).ty.Contents (Elt F)
abbrev BBuf (F : FTy → Type) : Type := (cc0_stg1_0 : Ref sig .tc).ty.Contents (Elt F)
abbrev LBuf (F : FTy → Type) : Type := (cc0_stg2_0 : Ref sig .tc).ty.Contents (Elt F)
abbrev OBuf (F : FTy → Type) : Type := (cc0_stg3_0 : Ref sig .tc).ty.Contents (Elt F)
abbrev KBuf (F : FTy → Type) : Type := (main_arg1 : Ref sig .tc).ty.Contents (Elt F)
abbrev VBuf (F : FTy → Type) : Type := (main_arg2 : Ref sig .tc).ty.Contents (Elt F)

section Partials
variable (c : Dev nD) (q : QBuf F) (k : KBuf F) (v : VBuf F) (b : BBuf F) (l : LBuf F)

/-- The queries of one head. -/
def qAt (x : Fin 2) (j : Fin 8) : Vec F S16x1x1x64 .f32 :=
  qM.view.readAt (Elt F) (Rect.unit (s := S16x1x16x64) ![0, 0, head x j, 0] S16x1x1x64.size (q_inb x j)).toLoadRect q
/-- The keys of one head: the head's slice of the pages, read back from slot `j`. -/
def kAt (x : Fin 2) (j : Fin 8) : Vec F S1x128x16x64 .f32 :=
  ksM.view.readAt (Elt F) (slotR j).toLoadRect ((ksH j).view.writes (Elt F) (ksH j).view.junk
    [⟨Rect.whole S128x16x64, ReadAs.same.apply (((kM.slice (Rect.unit (s := S128x16x16x64) ![0, 0, head x j, 0] S128x16x1x64.size (kv_inb x j)) (fun _ => rfl)).squeeze
      S128x16x64 squeezes_S128x16x1x64_S128x16x64).view.read (Elt F) k)⟩])
/-- The values of one head. -/
def vAt (x : Fin 2) (j : Fin 8) : Vec F S1x128x16x64 .f32 :=
  vsM.view.readAt (Elt F) (slotR j).toLoadRect ((vsH j).view.writes (Elt F) (vsH j).view.junk
    [⟨Rect.whole S128x16x64, ReadAs.same.apply (((vM.slice (Rect.unit (s := S128x16x16x64) ![0, 0, head x j, 0] S128x16x1x64.size (kv_inb x j)) (fun _ => rfl)).squeeze
      S128x16x64 squeezes_S128x16x1x64_S128x16x64).view.read (Elt F) v)⟩])

/-- How often a sequence's live blocks name a page of this device, and where that is never. -/
def yWord : BitVec 32 := Scalar.remsi (Scalar.divsi (BitVec.ofNat 32 c.val) 1#32) 2#32
def lAt : Vec F S16x1 .i32 := lM.view.readAt (Elt F) (Rect.unit (s := S16x1) ![0, 0] S16x1.size inb_S16x1_S16x1_0_0).toLoadRect l
def bAt : Vec F S16x128 .i32 := bM.view.readAt (Elt F) (Rect.unit (s := S16x128) ![0, 0] S16x128.size inb_S16x128_S16x128_0_0).toLoadRect b
def cnt : FVec F S16x2048 .f32 := k0_pay125 (yWord c) (k0_pay123 (lAt l)) (k0_pay124 (bAt b))
def dead : IVec S16x2048 1 := k0_pay126 (F := F) (yWord c) (k0_pay123 (lAt l)) (k0_pay124 (bAt b))

/-- One head's weights; their sum against the values, their greatest score, their sum. -/
def wAt (x : Fin 2) (j : Fin 8) : FVec F S16x2048 .f32 := k0_pay5 (cnt c b l) (dead (F := F) c b l) (qAt q x j) (kAt k x j)
def colA (x : Fin 2) (j : Fin 8) : FVec F S1x16x1x64 .f32 := k0_pay7 (wAt c q k b l x j) (vAt v x j)
def colM (x : Fin 2) (j : Fin 8) : FVec F S1x16x1x1 .f32 := k0_pay8 (k0_pay4 (dead (F := F) c b l) (qAt q x j) (kAt k x j))
def colL (x : Fin 2) (j : Fin 8) : FVec F S1x16x1x1 .f32 := k0_pay9 (k0_pay6 (cnt c b l) (dead (F := F) c b l) (qAt q x j) (kAt k x j))

theorem colA_inb (s : Fin 2) (j : Fin 8) : ∀ a, (![s.val, 0, j.val, 0] : Fin 4 → ℕ) a + S1x16x1x64.size a ≤ S2x16x8x66.size a := by revert s j; decide
theorem colM_inb (s : Fin 2) (j : Fin 8) : ∀ a, (![s.val, 0, j.val, 64] : Fin 4 → ℕ) a + S1x16x1x1.size a ≤ S2x16x8x66.size a := by revert s j; decide
theorem colL_inb (s : Fin 2) (j : Fin 8) : ∀ a, (![s.val, 0, j.val, 65] : Fin 4 → ℕ) a + S1x16x1x1.size a ≤ S2x16x8x66.size a := by revert s j; decide

abbrev rA (s : Fin 2) (j : Fin 8) : Rect S2x16x8x66 := Rect.unit (s := S2x16x8x66) ![s.val, 0, j.val, 0] S1x16x1x64.size (colA_inb s j)
abbrev rM (s : Fin 2) (j : Fin 8) : Rect S2x16x8x66 := Rect.unit (s := S2x16x8x66) ![s.val, 0, j.val, 64] S1x16x1x1.size (colM_inb s j)
abbrev rL (s : Fin 2) (j : Fin 8) : Rect S2x16x8x66 := Rect.unit (s := S2x16x8x66) ![s.val, 0, j.val, 65] S1x16x1x1.size (colL_inb s j)

/-- The pieces of the partials, the last stored first. -/
def cPieces (x : Fin 2) : List (View.Piece (Elt F) S2x16x8x66 .f32) :=
  [7, 6, 5, 4, 3, 2, 1, 0].flatMap fun j : Fin 8 =>
    [⟨rL 0 j, colL c q k b l x j⟩, ⟨rM 0 j, colM c q k b l x j⟩, ⟨rA 0 j, colA c q k v b l x j⟩]

/-- The partials of a device whose half of the heads is `x`. -/
def partials (x : Fin 2) : CBuf F := cM.view.writes (Elt F) cM.view.junk (cPieces c q k v b l x)

end Partials

/-! ## The finished heads -/

section Finished
variable (g₀ g₁ : CBuf F)

/-- One head from this device's partials and the row peer's. -/
def finAt (j : Fin 8) : FVec F S1x16x1x64 .f32 :=
  k0_pay128 (k0_pay127 (cM.view.readAt (Elt F) (rA 0 j).toLoadRect g₀) (cM.view.readAt (Elt F) (rM 0 j).toLoadRect g₀) (cM.view.readAt (Elt F) (rL 0 j).toLoadRect g₀)
    (cM.view.readAt (Elt F) (rA 1 j).toLoadRect g₁) (cM.view.readAt (Elt F) (rM 1 j).toLoadRect g₁) (cM.view.readAt (Elt F) (rL 1 j).toLoadRect g₁))

theorem fin_inb (j : Fin 8) : ∀ a, (![0, 0, j.val, 0] : Fin 4 → ℕ) a + S1x16x1x64.size a ≤ S2x16x8x64.size a := by revert j; decide
abbrev rF (j : Fin 8) : Rect S2x16x8x64 := Rect.unit (s := S2x16x8x64) ![0, 0, j.val, 0] S1x16x1x64.size (fin_inb j)

def fPieces : List (View.Piece (Elt F) S2x16x8x64 .f32) := [7, 6, 5, 4, 3, 2, 1, 0].map fun j : Fin 8 => ⟨rF j, finAt g₀ g₁ j⟩

def finished : FBuf F := fM.view.writes (Elt F) fM.view.junk (fPieces g₀ g₁)

end Finished

/-! ## The result -/

section Result
variable (f₀ f₁ : FBuf F)

theorem out_inb (x : Fin 2) : ∀ a, (![0, 0, 8 * x.val, 0] : Fin 4 → ℕ) a + S16x1x8x64.size a ≤ S16x1x16x64.size a := by revert x; decide
abbrev rO (x : Fin 2) : Rect S16x1x16x64 := Rect.unit (s := S16x1x16x64) ![0, 0, 8 * x.val, 0] S16x1x8x64.size (out_inb x)

/-- The heads this device's row finished go to half `x`, the column peer's to the other. -/
def outPieces (x : Fin 2) : List (View.Piece (Elt F) S16x1x16x64 .f32) :=
  [⟨rO (1 - x), k0_pay138 (fM.view.readAt (Elt F) fR1.toLoadRect f₁)⟩, ⟨rO x, k0_pay137 (fM.view.readAt (Elt F) fR0.toLoadRect f₀)⟩]

def outOf (x : Fin 2) : OBuf F := oM.view.writes (Elt F) oM.view.junk (outPieces f₀ f₁ x)

end Result

/-! ## A half stored whole no longer tells what it held before -/

local notation "𝕄" => MT nD τ sig Unit (Elt F) ℕ UU ℕ

/-- Where the stores of the partials and of the finished heads lie: one block of axis 2 per head. -/
def cCov (j : ℕ) : LoadRect.Cov := .split 3 65 (.split 3 64 (.leaf (3 * (7 - j) + 2)) (.leaf (3 * (7 - j) + 1))) (.leaf (3 * (7 - j)))
def byHead (t : ℕ → LoadRect.Cov) : LoadRect.Cov :=
  .split 2 1 (t 0) (.split 2 1 (t 1) (.split 2 1 (t 2) (.split 2 1 (t 3) (.split 2 1 (t 4) (.split 2 1 (t 5) (.split 2 1 (t 6) (t 7)))))))

theorem partials_eq (c : Dev nD) (q : QBuf F) (k : KBuf F) (v : VBuf F) (b : BBuf F) (l : LBuf F) (x : Fin 2) (g c0 : CBuf F)
    (hg : g = partials c q k v b l x) :
    (cM.view.loc (c : Thread nD τ) ↦[cM.view.setOn cR0.set]{fullShare} cM.view.writes (Elt F) c0 (cPieces c q k v b l x) : sProp 𝕄) = cPts0 c g := by
  subst hg
  exact Memref.pointsTo_setOn_writes_junk_of_covChk (c : Thread nD τ) cM c0 _ fullShare cR0.toLoadRect (byHead cCov) (by sl_kernel_rfl)

/-- As an entailment, the pieces spelt in any way. -/
theorem partials_of (c : Dev nD) (q : QBuf F) (k : KBuf F) (v : VBuf F) (b : BBuf F) (l : LBuf F) (x : Fin 2) (g c0 : CBuf F)
    (hg : g = partials c q k v b l x) {Lp : List (View.Piece (Elt F) S2x16x8x66 .f32)} (hL : Lp = cPieces c q k v b l x) :
    (cM.view.loc (c : Thread nD τ) ↦[cM.view.setOn cR0.set]{fullShare} cM.view.writes (Elt F) c0 Lp : sProp 𝕄)
      ⊢ cPts0 c g := by
  subst hL; exact Entails.of_eq (partials_eq c q k v b l x g c0 hg)

theorem finished_eq (c : Dev nD) (g₀ g₁ : CBuf F) (f f0 : FBuf F) (hf : f = finished g₀ g₁) :
    (fM.view.loc (c : Thread nD τ) ↦[fM.view.setOn fR0.set]{fullShare} fM.view.writes (Elt F) f0 (fPieces g₀ g₁) : sProp 𝕄) = fPts0 c f := by
  subst hf
  exact Memref.pointsTo_setOn_writes_junk_of_covChk (c : Thread nD τ) fM f0 _ fullShare fR0.toLoadRect (byHead fun j => .leaf (7 - j)) (by sl_kernel_rfl)

theorem finished_of (c : Dev nD) (g₀ g₁ : CBuf F) (f f0 : FBuf F) (hf : f = finished g₀ g₁) {Lp : List (View.Piece (Elt F) S2x16x8x64 .f32)}
    (hL : Lp = fPieces g₀ g₁) :
    (fM.view.loc (c : Thread nD τ) ↦[fM.view.setOn fR0.set]{fullShare} fM.view.writes (Elt F) f0 Lp : sProp 𝕄) ⊢ fPts0 c f := by
  subst hL; exact Entails.of_eq (finished_eq c g₀ g₁ f f0 hf)

end Cert.Paged
-- ==== Proof.Body.lean ====
/-
# The body

One device's run of the kernel, executed step by step. The two copies to the peers are stated as rules of their own;
everything else the executor carries out.
-/
module

public import proofs.«01_k».proof.Proof.Contents

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig Unit (Elt F) ℕ UU ℕ

abbrev 𝒱₀ : Variants := Variants.none

abbrev zero (c : Dev nD) (s : DmaSem sig) : sProp 𝕄 := semVal ((c : Thread nD τ), SemLoc.dma s) 0
abbrev part {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f
abbrev held {sp : Space} {s : Shape} {e : EltTy} (c : Dev nD) (M : Memref sig .tc sp s e) (f : Buf (Elt F) (M.view.loc (c : Thread nD τ))) : sProp 𝕄 :=
  M.view.loc (c : Thread nD τ) ↦{fullShare} f
def all8 (P : Fin 8 → sProp 𝕄) : sProp 𝕄 := iprop(P 0 ∗ P 1 ∗ P 2 ∗ P 3 ∗ P 4 ∗ P 5 ∗ P 6 ∗ P 7)

omit [FloatOps F] in
theorem duties_bar' (cm : Dev nD → CBuf F) (fm : Dev nD → FBuf F) (c : Dev nD) : (sched (F := F) cm fm).duties (barCell c) 0 = {false, true} := by
  rw [duties_bar]; decide

attribute [local sl_rounds] duties_bar' duties_ys duties_yr duties_xs duties_xr amount_bar amount_ys amount_yr amount_xs amount_xr
  pay_y pay_x payload_ys payload_yr payload_xs payload_xr expect_bar expect_ys expect_yr expect_xs expect_xr ypeer_ypeer xpeer_xpeer

variable (cm : Dev nD → CBuf F) (fm : Dev nD → FBuf F)

section Sends
variable (K : Dev nD × Fin 5 → ℕ) (c n : Dev nD)

theorem pay_row (f : CBuf F) :
    (cH1.view.loc (ypeer c : Thread nD τ) ↦[cH1.view.set]{fullShare} cH1.view.write (Elt F) f (cH0.view.read (Elt F) (cm c)) Finset.univ : sProp 𝕄)
      = (sched cm fm).payload (yrCell (ypeer c)) 0 false := by
  have h := payload_yr cm fm (ypeer c) false
  rw [ypeer_ypeer] at h
  exact (landC_of (ypeer c) f (cm c)).trans h.symm

/-- The copy of the partials to the row peer `n` (substituted, not rewritten). -/
theorem send_row (hn : n = ypeer c) (W : Waits sig Unit) {hsc : (cH1 : Memref sig (Dev.tc n : Thread nD τ).2.kind .vmem S16x8x66 .f32).view.ref.isScScratch = false}
    {hsrc : (cH0 : Memref sig .tc .vmem S16x8x66 .f32).view.WordExact} {hdst : (cH1 : Memref sig .tc .vmem S16x8x66 .f32).view.WordExact}
    {hsem : DmaTarget.Typed .vmem (.dma yrS) (.remote (Dev.tc n : Thread nD τ) (cH1 : Memref sig .tc .vmem S16x8x66 .f32) (.dma ysS) hsc)} (f : CBuf F)
    {α : Type} {Q : α → sProp 𝕄} {k : PUnit → Prog (TpuEff nD τ sig (Elt F) Λ₀ .tc) α} :
    iprop(cellInv ER (sched cm fm) (K (c, 1)) (ysCell c) ∗ cellInv ER (sched cm fm) (K (ypeer c, 2)) (yrCell (ypeer c))
        ∗ (cH0.view.loc (c : Thread nD τ) ↦[cH0.view.set]{fullShare} cm c) ∗ (cH1.view.loc (ypeer c : Thread nD τ) ↦[cH1.view.set]{fullShare} f)
        ∗ owes (c : Thread nD τ) (tallyAt (xrCell (xpeer c)) () Nx + tallyAt (yrCell (ypeer c)) () Ny) W
        ∗ dutyTok ER (ysCell c) 0 false ∗ reached ER (ysCell c) 0 ∗ dutyTok ER (yrCell (ypeer c)) 0 false ∗ reached ER (yrCell (ypeer c)) 0)
      ⊢ iprop(((cred (tallyAt (ysCell c) () Ny) ∗ owes (c : Thread nD τ) (tallyAt (xrCell (xpeer c)) () Nx) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cH0 (.remote (Dev.tc n : Thread nD τ) cH1 (.dma ysS) hsc) (.dma yrS) hsrc hdst hsem) k) Q) := by
  subst hn
  refine Rounds.wp_send_pointsTo 𝒱₀ ER (sched cm fm) (c : Thread nD τ) none (κ₁ := K (c, 1)) (κ₂ := K (ypeer c, 2)) (c' := Dev.tc (ypeer c))
    (r₁ := 0) (r₂ := 0) (d₁ := false) (d₂ := false) (fs := cm c) (fd := f) (src := cH0) (dst := cH1) (sS := .dma ysS) (sem := .dma yrS)
    ?_ ?_ () () Ny (View.amount_dma _ _) (amount_ys cm fm c false) (amount_yr cm fm (ypeer c) false) (tallyAt (xrCell (xpeer c)) () Nx) rfl (W := W) ?_ ?_
  · rw [duties_ys]; exact Finset.mem_singleton_self _
  · rw [duties_yr]; exact Finset.mem_singleton_self _
  · exact Entails.of_eq ((cView0 c (cm c)).symm.trans (payload_ys cm fm c false).symm)
  · exact Entails.of_eq (pay_row cm fm c f)

theorem pay_col (f : FBuf F) :
    (fH1.view.loc (xpeer c : Thread nD τ) ↦[fH1.view.set]{fullShare} fH1.view.write (Elt F) f (fH0.view.read (Elt F) (fm c)) Finset.univ : sProp 𝕄)
      = (sched cm fm).payload (xrCell (xpeer c)) 0 false := by
  have h := payload_xr cm fm (xpeer c) false
  rw [xpeer_xpeer] at h
  exact (landF_of (xpeer c) f (fm c)).trans h.symm

/-- The copy of the finished heads to the column peer. -/
theorem send_col (hn : n = xpeer c) (W : Waits sig Unit) {hsc : (fH1 : Memref sig (Dev.tc n : Thread nD τ).2.kind .vmem S16x8x64 .f32).view.ref.isScScratch = false}
    {hsrc : (fH0 : Memref sig .tc .vmem S16x8x64 .f32).view.WordExact} {hdst : (fH1 : Memref sig .tc .vmem S16x8x64 .f32).view.WordExact}
    {hsem : DmaTarget.Typed .vmem (.dma xrS) (.remote (Dev.tc n : Thread nD τ) (fH1 : Memref sig .tc .vmem S16x8x64 .f32) (.dma xsS) hsc)} (f : FBuf F)
    {α : Type} {Q : α → sProp 𝕄} {k : PUnit → Prog (TpuEff nD τ sig (Elt F) Λ₀ .tc) α} :
    iprop(cellInv ER (sched cm fm) (K (c, 3)) (xsCell c) ∗ cellInv ER (sched cm fm) (K (xpeer c, 4)) (xrCell (xpeer c))
        ∗ (fH0.view.loc (c : Thread nD τ) ↦[fH0.view.set]{fullShare} fm c) ∗ (fH1.view.loc (xpeer c : Thread nD τ) ↦[fH1.view.set]{fullShare} f)
        ∗ owes (c : Thread nD τ) (tallyAt (xrCell (xpeer c)) () Nx) W
        ∗ dutyTok ER (xsCell c) 0 false ∗ reached ER (xsCell c) 0 ∗ dutyTok ER (xrCell (xpeer c)) 0 false ∗ reached ER (xrCell (xpeer c)) 0)
      ⊢ iprop(((cred (tallyAt (xsCell c) () Nx) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma fH0 (.remote (Dev.tc n : Thread nD τ) fH1 (.dma xsS) hsc) (.dma xrS) hsrc hdst hsem) k) Q) := by
  subst hn
  refine Rounds.wp_send_pointsTo 𝒱₀ ER (sched cm fm) (c : Thread nD τ) none (κ₁ := K (c, 3)) (κ₂ := K (xpeer c, 4)) (c' := Dev.tc (xpeer c))
    (r₁ := 0) (r₂ := 0) (d₁ := false) (d₂ := false) (fs := fm c) (fd := f) (src := fH0) (dst := fH1) (sS := .dma xsS) (sem := .dma xrS)
    ?_ ?_ () () Nx (View.amount_dma _ _) (amount_xs cm fm c false) (amount_xr cm fm (xpeer c) false) 0 (zero_add _).symm (W := W) ?_ ?_
  · rw [duties_xs]; exact Finset.mem_singleton_self _
  · rw [duties_xr]; exact Finset.mem_singleton_self _
  · exact Entails.of_eq ((fView0 c (fm c)).symm.trans (payload_xs cm fm c false).symm)
  · exact Entails.of_eq (pay_col cm fm c f)

end Sends

/-- The exchange's ghost state a device starts from: the invariants of the cells it touches under the names `K`, its positions
    at its five cells, the marks of the cells it pays and of its own copy cells, the tokens of the duties it pays. -/
def ghost (K : Dev nD × Fin 5 → ℕ) (c : Dev nD) : sProp 𝕄 :=
  iprop((cellInv ER (sched cm fm) (K (c, 0)) (barCell c) ∗ cellInv ER (sched cm fm) (K (c, 1)) (ysCell c) ∗ cellInv ER (sched cm fm) (K (c, 2)) (yrCell c)
    ∗ cellInv ER (sched cm fm) (K (c, 3)) (xsCell c) ∗ cellInv ER (sched cm fm) (K (c, 4)) (xrCell c)
    ∗ cellInv ER (sched cm fm) (K (ypeer c, 0)) (barCell (ypeer c)) ∗ cellInv ER (sched cm fm) (K (xpeer c, 0)) (barCell (xpeer c))
    ∗ cellInv ER (sched cm fm) (K (ypeer c, 2)) (yrCell (ypeer c)) ∗ cellInv ER (sched cm fm) (K (xpeer c, 4)) (xrCell (xpeer c)))
    ∗ (atPos ER (barCell c) 0 ∅ 0 ∗ atPos ER (ysCell c) 0 ∅ 0 ∗ atPos ER (yrCell c) 0 ∅ 0 ∗ atPos ER (xsCell c) 0 ∅ 0 ∗ atPos ER (xrCell c) 0 ∅ 0)
    ∗ (reached ER (barCell (ypeer c)) 0 ∗ reached ER (barCell (xpeer c)) 0
    ∗ reached ER (ysCell c) 0 ∗ reached ER (yrCell c) 0 ∗ reached ER (xsCell c) 0 ∗ reached ER (xrCell c) 0)
    ∗ (dutyTok ER (barCell (ypeer c)) 0 false ∗ dutyTok ER (barCell (xpeer c)) 0 true
    ∗ dutyTok ER (ysCell c) 0 false ∗ dutyTok ER (yrCell (ypeer c)) 0 false ∗ dutyTok ER (xsCell c) 0 false ∗ dutyTok ER (xrCell (xpeer c)) 0 false))

/-- What a device's body starts from. -/
def bodyPre (K : Dev nD × Fin 5 → ℕ) (c : Dev nD) (q : QBuf F) (k : KBuf F) (v : VBuf F) (b : BBuf F) (l : LBuf F) (o : OBuf F)
    (ks : (cc0_scratch0 : Ref sig .tc).ty.Contents (Elt F)) (vs : (cc0_scratch1 : Ref sig .tc).ty.Contents (Elt F)) (c0 c1 : CBuf F) (f0 f1 : FBuf F) (W : Waits sig Unit) : sProp 𝕄 :=
  iprop(held c kM k ∗ held c vM v ∗ all8 (fun j => part c (ksH j) ks) ∗ all8 (fun j => part c (vsH j) vs)
    ∗ all8 (fun j => zero c (kd j)) ∗ all8 (fun j => zero c (vd j))
    ∗ owes (c : Thread nD τ) (tallyAt (xrCell (xpeer c)) () Nx + tallyAt (yrCell (ypeer c)) () Ny + tallyAt (barCell (xpeer c)) () 1 + tallyAt (barCell (ypeer c)) () 1) W
    ∗ held c qM q ∗ held c oM o ∗ held c bM b ∗ held c lM l ∗ cPts0 c c0 ∗ cPts1 c c1 ∗ fPts0 c f0 ∗ fPts1 c f1
    ∗ ghost cm fm K c
    ∗ cred (tallyAt (barCell c) () 2) ∗ cred (tallyAt (yrCell c) () Ny) ∗ cred (tallyAt (xrCell c) () Nx) ∗ levAts L lv)

theorem lv_ys (c : Dev nD) : lv (ysCell c) () = 0 := by revert c; decide
theorem xOf_cases (c : Dev nD) : xOf c = 0 ∨ xOf c = 1 := by revert c; decide
theorem cond0 (c : Dev nD) (h : xOf c = 0) : Scalar.cmpi .ne (Scalar.extui (Scalar.cmpi .eq (Scalar.remsi (Scalar.divsi (Dev.word c) 2#32) 2#32) 0#32) : BitVec 32) 0#32 = 1#1 ∧
    ¬ Scalar.cmpi .ne (Scalar.extui (Scalar.cmpi .eq (Scalar.remsi (Scalar.divsi (Dev.word c) 2#32) 2#32) 1#32) : BitVec 32) 0#32 = 1#1 := by revert c; decide
theorem cond1 (c : Dev nD) (h : xOf c = 1) : ¬ Scalar.cmpi .ne (Scalar.extui (Scalar.cmpi .eq (Scalar.remsi (Scalar.divsi (Dev.word c) 2#32) 2#32) 0#32) : BitVec 32) 0#32 = 1#1 ∧
    Scalar.cmpi .ne (Scalar.extui (Scalar.cmpi .eq (Scalar.remsi (Scalar.divsi (Dev.word c) 2#32) 2#32) 1#32) : BitVec 32) 0#32 = 1#1 := by revert c; decide

omit [FloatOps F] in
theorem close_cell (K : Dev nD × Fin 5 → ℕ) (c : Dev nD) (i : Fin 5) :
    iprop(cellInv ER (sched cm fm) (K (c, i)) (kcell (c, i)) ∗ atPos ER (kcell (c, i)) (0 + 1) ∅ 0) ⊢ |={Set.univ}=> (semVal (kcell (c, i)) 0 : sProp 𝕄) :=
  Rounds.cell_close ER (sched cm fm) (Set.mem_univ (K (c, i))) (fun h => h) (R := 0 + 1) (duties_later cm fm (kcell (c, i)))

/-- What the body leaves: the inputs as they were, the staging slots at anything, nothing owed, the result, the four halves at
    what the copies carried, every semaphore at zero. -/
def bodyPost (c : Dev nD) (q : QBuf F) (k : KBuf F) (v : VBuf F) (b : BBuf F) (l : LBuf F) : sProp 𝕄 :=
  iprop(held c kM k ∗ held c vM v ∗ all8 (fun j => iprop(∃ f, part c (ksH j) f)) ∗ all8 (fun j => iprop(∃ f, part c (vsH j) f))
    ∗ all8 (fun j => zero c (kd j)) ∗ all8 (fun j => zero c (vd j))
    ∗ (∃ W, owes (c : Thread nD τ) 0 W)
    ∗ held c qM q ∗ held c oM (outOf (fm c) (landF (fm (xpeer c))) (xOf c)) ∗ held c bM b ∗ held c lM l
    ∗ cPts0 c (cm c) ∗ cPts1 c (landC (cm (ypeer c))) ∗ fPts0 c (fm c) ∗ fPts1 c (landF (fm (xpeer c)))
    ∗ semVal (barCell c) 0 ∗ semVal (ysCell c) 0 ∗ semVal (yrCell c) 0 ∗ semVal (xsCell c) 0 ∗ semVal (xrCell c) 0)

theorem run_body (K : Dev nD × Fin 5 → ℕ) (c : Dev nD)
    (Kt : PUnit → sProp 𝕄) (q : QBuf F) (k : KBuf F) (v : VBuf F) (b : BBuf F) (l : LBuf F) (o : OBuf F)
    (ks : (cc0_scratch0 : Ref sig .tc).ty.Contents (Elt F)) (vs : (cc0_scratch1 : Ref sig .tc).ty.Contents (Elt F)) (c0 c1 : CBuf F) (f0 f1 : FBuf F) (W : Waits sig Unit)
    (hcm : cm c = partials c q k v b l (xOf c)) (hfm : fm c = finished (cm c) (landC (cm (ypeer c)))) :
    iprop(bodyPre cm fm K c q k v b l o ks vs c0 c1 f0 f1 W ∗ (bodyPost cm fm c q k v b l -∗ Kt ⟨⟩))
      ⊢ wp frame (wpE (defs₀ (F := F)) 𝒱₀ (c : Thread nD τ) none) Set.univ
          (cc0_body qM (Memref.isWhole_whole _) kM (Memref.isWhole_whole _) vM (Memref.isWhole_whole _) bM (Memref.isWhole_whole _)
            lM (Memref.isWhole_whole _) oM (Memref.isWhole_whole _) ksM (Memref.isWhole_whole _) vsM (Memref.isWhole_whole _)
            cM (Memref.isWhole_whole _) fM (Memref.isWhole_whole _) cc0_scratch4 cc0_scratch5 cc0_scratch6 cc0_scratch7 cc0_scratch8 cc0_scratch9) Kt := by
  have hd1 := dev1_eq c
  have hd2 := dev2_eq c
  have hd3 := dev3_eq c
  have hd4 := dev4_eq c
  have hwb : (levAts L lv : sProp 𝕄) ⊢ MayWait (c : Thread nD τ) (.reg barS) () (tallyAt (xrCell (xpeer c)) () Nx + tallyAt (yrCell (ypeer c)) () Ny) := mayWait_bar c
  have hwl : ∀ s O, lv ((c : Thread nD τ), .dma s) () = 0 → O = tallyAt (xrCell (xpeer c)) () Nx + tallyAt (yrCell (ypeer c)) () Ny →
      ((levAts L lv : sProp 𝕄) ⊢ MayWait (c : Thread nD τ) (.dma s) () O) := fun s O hs hO => mayWait_low c s hs O (.inr (.inl hO))
  have hwys : (levAts L lv : sProp 𝕄) ⊢ MayWait (c : Thread nD τ) (.dma ysS) () (tallyAt (xrCell (xpeer c)) () Nx) :=
    mayWait_low c ysS (lv_ys c) _ (.inr (.inr (.inl rfl)))
  have hwyr := mayWait_yr (F := F) c
  unfold bodyPre all8 ghost
  iintro ⟨⟨HK, HV, ⟨Hks0, Hks1, Hks2, Hks3, Hks4, Hks5, Hks6, Hks7⟩, ⟨Hvs0, Hvs1, Hvs2, Hvs3, Hvs4, Hvs5, Hvs6, Hvs7⟩, ⟨Hk0, Hk1, Hk2, Hk3, Hk4, Hk5, Hk6, Hk7⟩, ⟨Hv0, Hv1, Hv2, Hv3, Hv4, Hv5, Hv6, Hv7⟩, HO, Hq, Ho, Hb, Hl, Hc0, Hc1, Hf0, Hf1,
    ⟨⟨#HI, #HIys, #HIyr, #HIxs, #HIxr, #HIby, #HIbx, #HIyrp, #HIxrp⟩, ⟨HatB, Hatys, Hatyr, Hatxs, Hatxr⟩, ⟨#HrBy, #HrBx, #Hrys, #Hryr, #Hrxs, #Hrxr⟩, HtBy, HtBx, Htys, Htyr, Htxs, Htxr⟩, HcB, Hcyr, Hcxr, #Hlev⟩, Hk⟩
  have hxx := xOf_cases c
  rcases hxx with hxx | hxx <;> rw [hxx] at hcm <;> [(obtain ⟨hx, hx'⟩ := cond0 c hxx); (obtain ⟨hx, hx'⟩ := cond1 c hxx)]
  all_goals
    sl_exec! (disch := decide)
    ihave Hc0' : cPts0 c (cm c) $$ [Hc0]
    · iclear #
      istop
      refine partials_of c q k v b l _ (cm c) c0 hcm ?_
      rfl
    ihave Hp : iprop(((∃ f, cPts1 (ypeer c) f) ∗ reached ER (yrCell (ypeer c)) 0) ∗ ((∃ f, fPts1 (xpeer c) f) ∗ reached ER (xrCell (xpeer c)) 0)) $$ [HatB_pay1]
    · iexact HatB_pay1
    icases Hp with ⟨⟨⟨%c1', Hc1⟩, #Hryrp⟩, ⟨%f1', Hf1⟩, #Hrxrp⟩
    ihave Hc0 : iprop(cH0.view.loc (c : Thread nD τ) ↦[cH0.view.set]{fullShare} cm c) $$ [Hc0']
    · iclear #
      istop
      exact Entails.of_eq (cView0 c (cm c))
    ihave Hc1' : iprop(cH1.view.loc (ypeer c : Thread nD τ) ↦[cH1.view.set]{fullShare} c1') $$ [Hc1]
    · iclear #
      istop
      exact Entails.of_eq (cView1 (ypeer c) c1')
    iapply (send_row cm fm K c (ypeer c) rfl _ c1') $$ [Hc0 Hc1' HO Htys Htyr]
    · isplitr; · iexact HIys
      isplitr; · iexact HIyrp
      isplitl [Hc0]; · iexact Hc0
      isplitl [Hc1']; · iexact Hc1'
      isplitl [HO]; · iexact HO
      isplitl [Htys]; · iexact Htys
      isplitr; · iexact Hrys
      isplitl [Htyr]; · iexact Htyr
      iexact Hryrp
    iintro ⟨Hcys, HO⟩
    sl_exec! (disch := decide)
    ihave Hf0' : fPts0 c (fm c) $$ [Hf0]
    · iclear #
      istop
      refine finished_of c (cm c) (landC (cm (ypeer c))) (fm c) f0 hfm ?_
      rfl
    ihave Hf0 : iprop(fH0.view.loc (c : Thread nD τ) ↦[fH0.view.set]{fullShare} fm c) $$ [Hf0']
    · iclear #
      istop
      exact Entails.of_eq (fView0 c (fm c))
    ihave Hf1' : iprop(fH1.view.loc (xpeer c : Thread nD τ) ↦[fH1.view.set]{fullShare} f1') $$ [Hf1]
    · iclear #
      istop
      exact Entails.of_eq (fView1 (xpeer c) f1')
    iapply (send_col cm fm K c (xpeer c) rfl _ f1') $$ [Hf0 Hf1' HO Htxs Htxr]
    · isplitr; · iexact HIxs
      isplitr; · iexact HIxrp
      isplitl [Hf0]; · iexact Hf0
      isplitl [Hf1']; · iexact Hf1'
      isplitl [HO]; · iexact HO
      isplitl [Htxs]; · iexact Htxs
      isplitr; · iexact Hrxs
      isplitl [Htxr]; · iexact Htxr
      iexact Hrxrp
    iintro ⟨Hcxs, HO⟩
    sl_exec! (disch := decide)
    ihave Ho' : iprop(held c oM (outOf (fm c) (landF (fm (xpeer c))) (xOf c))) $$ [Ho]
    · iclear #
      istop
      rw [hxx]
      exact Entails.of_eq rfl
    imod (close_cell cm fm K c 0) $$ [HatB] with HzB
    · isplitr; · iexact HI
      iexact HatB
    imod (close_cell cm fm K c 1) $$ [Hatys] with Hzys
    · isplitr; · iexact HIys
      iexact Hatys
    imod (close_cell cm fm K c 2) $$ [Hatyr] with Hzyr
    · isplitr; · iexact HIyr
      iexact Hatyr
    imod (close_cell cm fm K c 3) $$ [Hatxs] with Hzxs
    · isplitr; · iexact HIxs
      iexact Hatxs
    imod (close_cell cm fm K c 4) $$ [Hatxr] with Hzxr
    · isplitr; · iexact HIxr
      iexact Hatxr
    rw [wp_ret]; imodintro
    iapply Hk
    unfold bodyPost all8
    isplitl [HK]; · iexact HK
    isplitl [HV]; · iexact HV
    isplitl [Hks0 Hks1 Hks2 Hks3 Hks4 Hks5 Hks6 Hks7]
    · isplitl [Hks0]; · iexists _; iexact Hks0
      isplitl [Hks1]; · iexists _; iexact Hks1
      isplitl [Hks2]; · iexists _; iexact Hks2
      isplitl [Hks3]; · iexists _; iexact Hks3
      isplitl [Hks4]; · iexists _; iexact Hks4
      isplitl [Hks5]; · iexists _; iexact Hks5
      isplitl [Hks6]; · iexists _; iexact Hks6
      iexists _; iexact Hks7
    isplitl [Hvs0 Hvs1 Hvs2 Hvs3 Hvs4 Hvs5 Hvs6 Hvs7]
    · isplitl [Hvs0]; · iexists _; iexact Hvs0
      isplitl [Hvs1]; · iexists _; iexact Hvs1
      isplitl [Hvs2]; · iexists _; iexact Hvs2
      isplitl [Hvs3]; · iexists _; iexact Hvs3
      isplitl [Hvs4]; · iexists _; iexact Hvs4
      isplitl [Hvs5]; · iexists _; iexact Hvs5
      isplitl [Hvs6]; · iexists _; iexact Hvs6
      iexists _; iexact Hvs7
    isplitl [Hk0 Hk1 Hk2 Hk3 Hk4 Hk5 Hk6 Hk7]
    · isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      iexact Hk7
    isplitl [Hv0 Hv1 Hv2 Hv3 Hv4 Hv5 Hv6 Hv7]
    · isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      iexact Hv7
    isplitl [HO]; · iexists _; iexact HO
    isplitl [Hq]; · iexact Hq
    isplitl [Ho']; · iexact Ho'
    isplitl [Hb]; · iexact Hb
    isplitl [Hl]; · iexact Hl
    isplitl [Hatys_pay1]; · iexact Hatys_pay1
    isplitl [Hatyr_pay1]; · iexact Hatyr_pay1
    isplitl [Hatxs_pay1]; · iexact Hatxs_pay1
    isplitl [Hatxr_pay1]; · iexact Hatxr_pay1
    isplitl [HzB]; · iexact HzB
    isplitl [Hzys]; · iexact Hzys
    isplitl [Hzyr]; · iexact Hzyr
    isplitl [Hzxs]; · iexact Hzxs
    iexact Hzxr

end Cert.Paged
-- ==== Proof.Parts.lean ====
/-
# The parts of the buffers

The buffers cut into the parts the body names, and joined back.
-/
module

public import proofs.«01_k».proof.Proof.Body
public import Idealize.ShloMosaic.Lib.Ring
public import Idealize.ShloMosaic.Adequacy
public import Idealize.ShloMosaic.Init

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The parts of the buffers -/

theorem setOn_whole (b : Ref sig .tc) (M : Finset b.ty.shape.Idx) : (Memref.whole b).view.setOn M = M := Finset.map_refl
theorem disjoint_whole (b : Ref sig .tc) (I J : Finset b.ty.shape.Idx) (h : Disjoint I J) : Disjoint ((Memref.whole b).view.setOn I) ((Memref.whole b).view.setOn J) := by
  rw [setOn_whole, setOn_whole]; exact h

theorem ksH_set (j : Fin 8) : (ksH j).view.set = (slotR j).set := ((View.set_reshape _ _).trans (View.set_slice _ _)).trans (setOn_whole _ _)
theorem vsH_set (j : Fin 8) : (vsH j).view.set = (slotR j).set := ((View.set_reshape _ _).trans (View.set_slice _ _)).trans (setOn_whole _ _)

theorem slot_disjoint (i j : Fin 8) (h : i ≠ j) : Disjoint (slotR i).set (slotR j).set :=
  Rect.unit_disjoint (0 : Fin 4) (by
    show i.val + 1 ≤ j.val ∨ j.val + 1 ≤ i.val
    rcases Nat.lt_or_gt_of_ne (fun e => h (Fin.ext e)) with h | h
    · exact .inl h
    · exact .inr h)
theorem slot_cover : Finset.univ.biUnion (fun j => (slotR j).set) = (Finset.univ : Finset S8x128x16x64.Idx) := by
  refine Finset.eq_univ_of_forall fun i => Finset.mem_biUnion.mpr ⟨i 0, Finset.mem_univ _, Rect.mem_set_unit.mpr fun a => ?_⟩
  fin_cases a
  · exact ⟨Nat.le_refl _, Nat.lt_succ_self _⟩
  · exact ⟨Nat.zero_le _, (Nat.zero_add 128).symm ▸ (i 1).isLt⟩
  · exact ⟨Nat.zero_le _, (Nat.zero_add 16).symm ▸ (i 2).isLt⟩
  · exact ⟨Nat.zero_le _, (Nat.zero_add 64).symm ▸ (i 3).isLt⟩

theorem cR_disjoint : Disjoint cR0.set cR1.set := Rect.unit_disjoint (0 : Fin 4) (.inl (Nat.le_refl _))
theorem fR_disjoint : Disjoint fR0.set fR1.set := Rect.unit_disjoint (0 : Fin 4) (.inl (Nat.le_refl _))
theorem cR_cover : cR0.set ∪ cR1.set = Finset.univ := by
  refine Finset.eq_univ_of_forall fun i => Finset.mem_union.mpr ?_
  have h2 : (i 0).val < 2 := (i 0).isLt
  have h : (i 0).val = 0 ∨ (i 0).val = 1 := by omega
  rcases h with h | h
  · refine .inl (Rect.mem_set_unit.mpr fun a => ?_)
    fin_cases a
    · exact ⟨Nat.zero_le _, by show (i 0).val < 0 + 1; omega⟩
    · exact ⟨Nat.zero_le _, (Nat.zero_add 16).symm ▸ (i 1).isLt⟩
    · exact ⟨Nat.zero_le _, (Nat.zero_add 8).symm ▸ (i 2).isLt⟩
    · exact ⟨Nat.zero_le _, (Nat.zero_add 66).symm ▸ (i 3).isLt⟩
  · refine .inr (Rect.mem_set_unit.mpr fun a => ?_)
    fin_cases a
    · exact ⟨h.symm ▸ Nat.le_refl _, by show (i 0).val < 1 + 1; omega⟩
    · exact ⟨Nat.zero_le _, (Nat.zero_add 16).symm ▸ (i 1).isLt⟩
    · exact ⟨Nat.zero_le _, (Nat.zero_add 8).symm ▸ (i 2).isLt⟩
    · exact ⟨Nat.zero_le _, (Nat.zero_add 66).symm ▸ (i 3).isLt⟩
theorem fR_cover : fR0.set ∪ fR1.set = Finset.univ := by
  refine Finset.eq_univ_of_forall fun i => Finset.mem_union.mpr ?_
  have h2 : (i 0).val < 2 := (i 0).isLt
  have h : (i 0).val = 0 ∨ (i 0).val = 1 := by omega
  rcases h with h | h
  · refine .inl (Rect.mem_set_unit.mpr fun a => ?_)
    fin_cases a
    · exact ⟨Nat.zero_le _, by show (i 0).val < 0 + 1; omega⟩
    · exact ⟨Nat.zero_le _, (Nat.zero_add 16).symm ▸ (i 1).isLt⟩
    · exact ⟨Nat.zero_le _, (Nat.zero_add 8).symm ▸ (i 2).isLt⟩
    · exact ⟨Nat.zero_le _, (Nat.zero_add 64).symm ▸ (i 3).isLt⟩
  · refine .inr (Rect.mem_set_unit.mpr fun a => ?_)
    fin_cases a
    · exact ⟨h.symm ▸ Nat.le_refl _, by show (i 0).val < 1 + 1; omega⟩
    · exact ⟨Nat.zero_le _, (Nat.zero_add 16).symm ▸ (i 1).isLt⟩
    · exact ⟨Nat.zero_le _, (Nat.zero_add 8).symm ▸ (i 2).isLt⟩
    · exact ⟨Nat.zero_le _, (Nat.zero_add 64).symm ▸ (i 3).isLt⟩

section Parts
variable {ℓ : Loc nD τ sig}

omit [FloatOps F] in
theorem bigSep_eight (P : Fin 8 → sProp 𝕄) : bigSep Finset.univ P = all8 P := bigSep_univ_eq_bigSepL [0, 1, 2, 3, 4, 5, 6, 7] (by decide) (by decide) P

omit [FloatOps F] in
/-- A buffer is its eight slots, and back at some contents. -/
theorem slots_out (I : Fin 8 → Finset (Idx ℓ)) (hd : ∀ i j, i ≠ j → Disjoint (I i) (I j)) (hc : Finset.univ.biUnion I = Finset.univ) (f : Buf (Elt F) ℓ) :
    (ℓ ↦{fullShare} f : sProp 𝕄) ⊢ all8 fun j => ℓ ↦[I j]{fullShare} f :=
  Entails.of_eq ((Ring.pointsTo_blocks I hd hc f).trans (bigSep_eight _))
omit [FloatOps F] in
theorem slots_in (I : Fin 8 → Finset (Idx ℓ)) (hd : ∀ i j, i ≠ j → Disjoint (I i) (I j)) (hc : Finset.univ.biUnion I = Finset.univ) (f₀ : Buf (Elt F) ℓ) :
    (all8 fun j => iprop(∃ f, ℓ ↦[I j]{fullShare} f) : sProp 𝕄) ⊢ iprop(∃ g, ℓ ↦{fullShare} g) :=
  (Entails.of_eq (bigSep_eight _).symm).trans (Ring.pointsTo_blocks_join_exists I hd hc f₀)

omit [FloatOps F] in
/-- A buffer is its two halves, and back. -/
theorem halves_out (I J : Finset (Idx ℓ)) (hd : Disjoint I J) (hc : I ∪ J = Finset.univ) (f : Buf (Elt F) ℓ) :
    (ℓ ↦{fullShare} f : sProp 𝕄) ⊢ iprop((ℓ ↦[I]{fullShare} f) ∗ ℓ ↦[J]{fullShare} f) := by
  have h := (pointsTo_union (Ix := Unit) (Name := ℕ) (U := UU) (Lvl := ℕ) (q := fullShare) (f := f) hd).1
  rw [hc] at h; exact h
omit [FloatOps F] in
theorem halves_in (I J : Finset (Idx ℓ)) (hd : Disjoint I J) (hc : I ∪ J = Finset.univ) (f g : Buf (Elt F) ℓ) :
    (iprop((ℓ ↦[I]{fullShare} f) ∗ ℓ ↦[J]{fullShare} g) : sProp 𝕄) ⊢ iprop(∃ h, ℓ ↦{fullShare} h) := by
  have h := pointsTo_join (Ix := Unit) (Name := ℕ) (U := UU) (Lvl := ℕ) (q := fullShare) (f := f) (g := g) hd
  rw [hc] at h
  refine h.trans ?_
  iintro H; iexists _; iexact H

end Parts

theorem ks_disj (i j : Fin 8) (h : i ≠ j) : Disjoint (ksH i).view.set (ksH j).view.set := (ksH_set i).symm ▸ (ksH_set j).symm ▸ slot_disjoint i j h
theorem vs_disj (i j : Fin 8) (h : i ≠ j) : Disjoint (vsH i).view.set (vsH j).view.set := (vsH_set i).symm ▸ (vsH_set j).symm ▸ slot_disjoint i j h
theorem ks_cover : (Finset.univ : Finset (Fin 8)).biUnion (β := S8x128x16x64.Idx) (fun j => (ksH j).view.set) = Finset.univ := (Finset.biUnion_congr rfl fun j _ => ksH_set j).trans slot_cover
theorem vs_cover : (Finset.univ : Finset (Fin 8)).biUnion (β := S8x128x16x64.Idx) (fun j => (vsH j).view.set) = Finset.univ := (Finset.biUnion_congr rfl fun j _ => vsH_set j).trans slot_cover

omit [FloatOps F] in
theorem ks_out (c : Dev nD) (f : (cc0_scratch0 : Ref sig .tc).ty.Contents (Elt F)) :
    (((c : Thread nD τ).loc cc0_scratch0) ↦{fullShare} f : sProp 𝕄) ⊢ all8 fun j => part c (ksH j) f :=
  slots_out (ℓ := (c : Thread nD τ).loc cc0_scratch0) (fun j => (ksH j).view.set) ks_disj ks_cover f
omit [FloatOps F] in
theorem ks_in (c : Dev nD) (f₀ : (cc0_scratch0 : Ref sig .tc).ty.Contents (Elt F)) :
    (all8 fun j => iprop(∃ f, part c (ksH j) f) : sProp 𝕄) ⊢ iprop(∃ g, ((c : Thread nD τ).loc cc0_scratch0) ↦{fullShare} g) :=
  slots_in (ℓ := (c : Thread nD τ).loc cc0_scratch0) (fun j => (ksH j).view.set) ks_disj ks_cover f₀

omit [FloatOps F] in
theorem vs_out (c : Dev nD) (f : (cc0_scratch1 : Ref sig .tc).ty.Contents (Elt F)) :
    (((c : Thread nD τ).loc cc0_scratch1) ↦{fullShare} f : sProp 𝕄) ⊢ all8 fun j => part c (vsH j) f :=
  slots_out (ℓ := (c : Thread nD τ).loc cc0_scratch1) (fun j => (vsH j).view.set) vs_disj vs_cover f
omit [FloatOps F] in
theorem vs_in (c : Dev nD) (f₀ : (cc0_scratch1 : Ref sig .tc).ty.Contents (Elt F)) :
    (all8 fun j => iprop(∃ f, part c (vsH j) f) : sProp 𝕄) ⊢ iprop(∃ g, ((c : Thread nD τ).loc cc0_scratch1) ↦{fullShare} g) :=
  slots_in (ℓ := (c : Thread nD τ).loc cc0_scratch1) (fun j => (vsH j).view.set) vs_disj vs_cover f₀

theorem cM_disj : Disjoint (cM.view.setOn cR0.set) (cM.view.setOn cR1.set) := disjoint_whole cc0_scratch2 cR0.set cR1.set cR_disjoint
theorem cM_cover : cM.view.setOn cR0.set ∪ cM.view.setOn cR1.set = Finset.univ := (congrArg₂ (· ∪ ·) (setOn_whole cc0_scratch2 cR0.set) (setOn_whole cc0_scratch2 cR1.set)).trans cR_cover
omit [FloatOps F] in
theorem c_out (c : Dev nD) (f : CBuf F) : (((c : Thread nD τ).loc cc0_scratch2) ↦{fullShare} f : sProp 𝕄) ⊢ iprop(cPts0 c f ∗ cPts1 c f) :=
  halves_out (ℓ := (c : Thread nD τ).loc cc0_scratch2) (cM.view.setOn cR0.set) (cM.view.setOn cR1.set) cM_disj cM_cover f
omit [FloatOps F] in
theorem c_in (c : Dev nD) (f g : CBuf F) : (iprop(cPts0 c f ∗ cPts1 c g) : sProp 𝕄) ⊢ iprop(∃ h, ((c : Thread nD τ).loc cc0_scratch2) ↦{fullShare} h) :=
  halves_in (ℓ := (c : Thread nD τ).loc cc0_scratch2) (cM.view.setOn cR0.set) (cM.view.setOn cR1.set) cM_disj cM_cover f g

theorem fM_disj : Disjoint (fM.view.setOn fR0.set) (fM.view.setOn fR1.set) := disjoint_whole cc0_scratch3 fR0.set fR1.set fR_disjoint
theorem fM_cover : fM.view.setOn fR0.set ∪ fM.view.setOn fR1.set = Finset.univ := (congrArg₂ (· ∪ ·) (setOn_whole cc0_scratch3 fR0.set) (setOn_whole cc0_scratch3 fR1.set)).trans fR_cover
omit [FloatOps F] in
theorem f_out (c : Dev nD) (f : FBuf F) : (((c : Thread nD τ).loc cc0_scratch3) ↦{fullShare} f : sProp 𝕄) ⊢ iprop(fPts0 c f ∗ fPts1 c f) :=
  halves_out (ℓ := (c : Thread nD τ).loc cc0_scratch3) (fM.view.setOn fR0.set) (fM.view.setOn fR1.set) fM_disj fM_cover f
omit [FloatOps F] in
theorem f_in (c : Dev nD) (f g : FBuf F) : (iprop(fPts0 c f ∗ fPts1 c g) : sProp 𝕄) ⊢ iprop(∃ h, ((c : Thread nD τ).loc cc0_scratch3) ↦{fullShare} h) :=
  halves_in (ℓ := (c : Thread nD τ).loc cc0_scratch3) (fM.view.setOn fR0.set) (fM.view.setOn fR1.set) fM_disj fM_cover f g

end Cert.Paged
-- ==== Proof.Launch.lean ====
/-
# The launch

The pipeline's data, the body's obligation, the exchange's ghost state dealt to the devices, and the run of the whole program
on the mesh.
-/
module

public import proofs.«01_k».proof.Proof.Parts

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## What the run computes -/

/-- The queries, the block table and the lengths as staged on a device, its pages of keys and of values. -/
def qOf (c : Dev nD) : QBuf F := (win0_0.blk (0 : Fin 1)).view.read (Elt F) (m ((c : Thread nD τ).loc main_arg0))
def bOf (c : Dev nD) : BBuf F := (win0_1.blk (0 : Fin 1)).view.read (Elt F) (m ((c : Thread nD τ).loc main_arg3))
def lOf (c : Dev nD) : LBuf F := (win0_2.blk (0 : Fin 1)).view.read (Elt F) (m ((c : Thread nD τ).loc main_arg4))
def kOf (c : Dev nD) : KBuf F := m ((c : Thread nD τ).loc main_arg1)
def vOf (c : Dev nD) : VBuf F := m ((c : Thread nD τ).loc main_arg2)

/-- A device's partials, its finished heads, its result. -/
def cmOf (c : Dev nD) : CBuf F := partials c (qOf m c) (kOf m c) (vOf m c) (bOf m c) (lOf m c) (xOf c)
def fmOf (c : Dev nD) : FBuf F := finished (cmOf m c) (landC (cmOf m (ypeer c)))
@[irreducible] def resOf (c : Dev nD) : OBuf F := outOf (fmOf m c) (landF (fmOf m (xpeer c))) (xOf c)
theorem resOf_eq (c : Dev nD) : resOf m c = outOf (fmOf m c) (landF (fmOf m (xpeer c))) (xOf c) := by unfold resOf; exact Eq.refl _

/-- The exchange's schedule at these contents. -/
abbrev Sd : Rounds.Schedule (GSem nD τ sig) Bool 𝕄 := sched (cmOf m) (fmOf m)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's own semaphores: the local copies' of the keys and of the values, the four of the exchange. -/
def osem (i : Fin 20) : SemLoc sig :=
  if h : i.val < 8 then .dma (kd ⟨i.val, h⟩)
  else if h : i.val < 16 then .dma (vd ⟨i.val - 8, by omega⟩)
  else if i.val = 16 then .dma ysS else if i.val = 17 then .dma yrS else if i.val = 18 then .dma xsS else .dma xrS

/-- What a device's body starts from besides the buffers of the pipeline. -/
def start (c : Dev nD) : sProp 𝕄 :=
  iprop(((∃ K, ghost (cmOf m) (fmOf m) K c) ∗ all8 (fun j => zero c (kd j)) ∗ all8 (fun j => zero c (vd j)))
    ∗ (cred (tallyAt (barCell c) () 2) ∗ cred (tallyAt (yrCell c) () Ny) ∗ cred (tallyAt (xrCell c) () Nx)) ∗ levAts L lv
    ∗ held c kM (kOf m c) ∗ held c vM (vOf m c))

def Φ₀ (c : Dev nD) : sProp 𝕄 := iprop(start m c ∗ Pipeline.scopedRest spec0 c)
def Φ₁ (c : Dev nD) : sProp 𝕄 :=
  iprop((unscopedSems0 c ∗ held c kM (kOf m c) ∗ held c vM (vOf m c))
    ∗ Pipeline.ownSems0 (Ix := Unit) (Name := ℕ) (U := UU) (Lvl := ℕ) (Val := Elt F) (τ := τ) osem c ∗ Pipeline.scopedRest spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qOf m c
    | ⟨1, _⟩ => bOf m c
    | ⟨2, _⟩ => lOf m c
    | ⟨3, _⟩ => resOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
/-- The own semaphores at zero, one by one. -/
theorem ownSems0_eq (c : Dev nD) : (Pipeline.ownSems0 (Ix := Unit) (Name := ℕ) (U := UU) (Lvl := ℕ) (Val := Elt F) (τ := τ) osem c : sProp 𝕄)
    = iprop(zero c (kd 0) ∗ zero c (kd 1) ∗ zero c (kd 2) ∗ zero c (kd 3) ∗ zero c (kd 4) ∗ zero c (kd 5) ∗ zero c (kd 6) ∗ zero c (kd 7)
      ∗ zero c (vd 0) ∗ zero c (vd 1) ∗ zero c (vd 2) ∗ zero c (vd 3) ∗ zero c (vd 4) ∗ zero c (vd 5) ∗ zero c (vd 6) ∗ zero c (vd 7)
      ∗ zero c ysS ∗ zero c yrS ∗ zero c xsS ∗ zero c xrS) := by
  rw [Pipeline.ownSems0_eq_of_list c osem [0, 1, 2, 3, 4, 5, 6, 7, 8, 9, 10, 11, 12, 13, 14, 15, 16, 17, 18, 19] (by decide) (by decide)]; rfl

omit [FloatOps F] in
theorem own_split (c : Dev nD) : (Pipeline.ownSems0 (Ix := Unit) (Name := ℕ) (U := UU) (Lvl := ℕ) (Val := Elt F) (τ := τ) osem c : sProp 𝕄)
    ⊢ iprop(all8 (fun j => zero c (kd j)) ∗ all8 (fun j => zero c (vd j)) ∗ zero c ysS ∗ zero c yrS ∗ zero c xsS ∗ zero c xrS) := by
  rw [ownSems0_eq]; unfold all8
  iintro ⟨K0, K1, K2, K3, K4, K5, K6, K7, V0, V1, V2, V3, V4, V5, V6, V7, H⟩
  isplitl [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6] <;> iassumption
  isplitl [V0 V1 V2 V3 V4 V5 V6 V7]
  · isplitl [V0]; · iexact V0
    isplitl [V1]; · iexact V1
    isplitl [V2]; · iexact V2
    isplitl [V3]; · iexact V3
    isplitl [V4]; · iexact V4
    isplitl [V5]; · iexact V5
    isplitl [V6] <;> iassumption
  iexact H
omit [FloatOps F] in
theorem own_join (c : Dev nD) : (iprop(all8 (fun j => zero c (kd j)) ∗ all8 (fun j => zero c (vd j)) ∗ zero c ysS ∗ zero c yrS ∗ zero c xsS ∗ zero c xrS) : sProp 𝕄)
    ⊢ Pipeline.ownSems0 (Ix := Unit) (Name := ℕ) (U := UU) (Lvl := ℕ) (Val := Elt F) (τ := τ) osem c := by
  rw [ownSems0_eq]; unfold all8
  iintro ⟨⟨K0, K1, K2, K3, K4, K5, K6, K7⟩, ⟨V0, V1, V2, V3, V4, V5, V6, V7⟩, H⟩
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [V0]; · iexact V0
  isplitl [V1]; · iexact V1
  isplitl [V2]; · iexact V2
  isplitl [V3]; · iexact V3
  isplitl [V4]; · iexact V4
  isplitl [V5]; · iexact V5
  isplitl [V6]; · iexact V6
  isplitl [V7]; · iexact V7
  iexact H

omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The body's obligation -/

def pre (c : Dev nD) : sProp 𝕄 :=
  iprop(Φ₀ m c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))
def post (c : Dev nD) : sProp 𝕄 :=
  iprop(Φ₁ m c ∗ (dats m ρ 0 c).owesAt () t₀.succ ∗ stg c cc0_stg0_0 (qOf m c) ∗ stg c cc0_stg1_0 (bOf m c) ∗ stg c cc0_stg2_0 (lOf m c) ∗ stg c cc0_stg3_0 (resOf m c))

set_option maxRecDepth 4000 in
theorem post_intro (c : Dev nD) : bodyPost (cmOf m) (fmOf m) c (qOf m c) (kOf m c) (vOf m c) (bOf m c) (lOf m c) ⊢ post m ρ c := by
  unfold bodyPost post Φ₁ Dat.owesAt Pipeline.owesWithin
  rw [show (dats m ρ 0 c).owed t₀.succ = 0 from rfl, scopedRest0_eq, unscopedSems0_eq, resOf_eq]
  iintro ⟨HK, HV, Hks, Hvs, Hkd, Hvd, ⟨%W, HO⟩, Hq, Ho, Hb, Hl, Hc0, Hc1, Hf0, Hf1, HzB, Hzys, Hzyr, Hzxs, Hzxr⟩
  isplitl [HK HV Hks Hvs Hkd Hvd Hc0 Hc1 Hf0 Hf1 HzB Hzys Hzyr Hzxs Hzxr]
  · isplitl [HzB HK HV]
    · isplitl [HzB]; · iexact HzB
      isplitl [HK]; · iexact HK
      iexact HV
    isplitl [Hkd Hvd Hzys Hzyr Hzxs Hzxr]
    · iapply (own_join (F := F) c)
      isplitl [Hkd]; · iexact Hkd
      isplitl [Hvd]; · iexact Hvd
      isplitl [Hzys]; · iexact Hzys
      isplitl [Hzyr]; · iexact Hzyr
      isplitl [Hzxs]; · iexact Hzxs
      iexact Hzxr
    isplitl [Hks]; · iapply (ks_in c ((ksH 0).view.junk)); iexact Hks
    isplitl [Hvs]; · iapply (vs_in c ((vsH 0).view.junk)); iexact Hvs
    isplitl [Hc0 Hc1]
    · iapply (c_in c _ _); isplitl [Hc0]; · iexact Hc0
      iexact Hc1
    iapply (f_in c _ _); isplitl [Hf0]; · iexact Hf0
    iexact Hf1
  isplitl [HO]
  · iexists W; isplitr; · ipureintro; exact fun _ _ => Or.inl trivial
    iexact HO
  isplitl [Hq]; · iexists _; isplitr; · (ipureintro; rfl)
                  iexact Hq
  isplitl [Hb]; · iexists _; isplitr; · (ipureintro; rfl)
                  iexact Hb
  isplitl [Hl]; · iexists _; isplitr; · (ipureintro; rfl)
                  iexact Hl
  iexists _; isplitr; · (ipureintro; rfl)
  iexact Ho

theorem cmOf_eq (c : Dev nD) : cmOf m c = partials c (qOf m c) (kOf m c) (vOf m c) (bOf m c) (lOf m c) (xOf c) := by unfold cmOf; rfl
theorem fmOf_eq (c : Dev nD) : fmOf m c = finished (cmOf m c) (landC (cmOf m (ypeer c))) := by unfold fmOf; rfl

set_option maxRecDepth 4000 in
set_option maxHeartbeats 1000000 in
theorem sound (c : Dev nD) :
    pre m ρ c ⊢ wp frame (wpE (defs₀ (F := F)) 𝒱₀ (c : Thread nD τ) none) Set.univ
          (cc0_body qM (Memref.isWhole_whole _) kM (Memref.isWhole_whole _) vM (Memref.isWhole_whole _) bM (Memref.isWhole_whole _)
            lM (Memref.isWhole_whole _) oM (Memref.isWhole_whole _) ksM (Memref.isWhole_whole _) vsM (Memref.isWhole_whole _)
            cM (Memref.isWhole_whole _) fM (Memref.isWhole_whole _) cc0_scratch4 cc0_scratch5 cc0_scratch6 cc0_scratch7 cc0_scratch8 cc0_scratch9) (fun _ => post m ρ c) := by
  unfold pre Φ₀ start
  rw [scopedRest0_eq]
  iintro ⟨⟨⟨⟨⟨%K, Hg⟩, Hkd, Hvd⟩, ⟨HcB, Hcyr, Hcxr⟩, Hlev, HK, HV⟩, ⟨%ks, Hks⟩, ⟨%vs, Hvs⟩, ⟨%c0, Hc⟩, ⟨%f0, Hf⟩⟩, Ho,
    ⟨%d0, %g0, %hg0, Hq⟩, ⟨%d1, %g1, %hg1, Hb⟩, ⟨%d2, %g2, %hg2, Hl⟩, ⟨%d3, %g3, %hg3, Hout⟩⟩
  have hq : g0 = qOf m c := by rw [hg0]; unfold Dat.before; rw [if_pos (fetch_0 t₀)]; rfl
  have hb : g1 = bOf m c := by rw [hg1]; unfold Dat.before; rw [if_pos (fetch_1 t₀)]; rfl
  have hl : g2 = lOf m c := by rw [hg2]; unfold Dat.before; rw [if_pos (fetch_2 t₀)]; rfl
  subst hq hb hl
  unfold Dat.owesAt Pipeline.owesWithin
  icases Ho with ⟨%W, %hW, HO⟩
  rw [show (dats m ρ 0 c).owed t₀.castSucc = tallyAt (xrCell (xpeer c)) () Nx + tallyAt (yrCell (ypeer c)) () Ny + tallyAt (barCell (xpeer c)) () 1
    + tallyAt (barCell (ypeer c)) () 1 from rfl]
  ihave Hks' := (ks_out c ks) $$ Hks
  ihave Hvs' := (vs_out c vs) $$ Hvs
  ihave Hc' := (c_out c c0) $$ Hc
  ihave Hf' := (f_out c f0) $$ Hf
  icases Hc' with ⟨Hc0, Hc1⟩
  icases Hf' with ⟨Hf0, Hf1⟩
  iapply (run_body (cmOf m) (fmOf m) K c (fun _ => post m ρ c) (qOf m c) (kOf m c) (vOf m c) (bOf m c) (lOf m c) g3 ks vs c0 c0 f0 f0 W (cmOf_eq m c) (fmOf_eq m c))
  isplitr []
  · unfold bodyPre
    isplitl [HK]; · iexact HK
    isplitl [HV]; · iexact HV
    isplitl [Hks']; · iexact Hks'
    isplitl [Hvs']; · iexact Hvs'
    isplitl [Hkd]; · iexact Hkd
    isplitl [Hvd]; · iexact Hvd
    isplitl [HO]; · iexact HO
    isplitl [Hq]; · iexact Hq
    isplitl [Hout]; · iexact Hout
    isplitl [Hb]; · iexact Hb
    isplitl [Hl]; · iexact Hl
    isplitl [Hc0]; · iexact Hc0
    isplitl [Hc1]; · iexact Hc1
    isplitl [Hf0]; · iexact Hf0
    isplitl [Hf1]; · iexact Hf1
    isplitl [Hg]; · iexact Hg
    isplitl [HcB]; · iexact HcB
    isplitl [Hcyr]; · iexact Hcyr
    isplitl [Hcxr]; · iexact Hcxr
    iexact Hlev
  · iintro H
    iapply (post_intro m ρ c); iexact H

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole]
  show pre m ρ c ⊢ wp frame (wpE (defs₀ (F := F)) 𝒱₀ (c : Thread nD τ) none) Set.univ
          (cc0_body qM (Memref.isWhole_whole _) kM (Memref.isWhole_whole _) vM (Memref.isWhole_whole _) bM (Memref.isWhole_whole _)
            lM (Memref.isWhole_whole _) oM (Memref.isWhole_whole _) ksM (Memref.isWhole_whole _) vsM (Memref.isWhole_whole _)
            cM (Memref.isWhole_whole _) fM (Memref.isWhole_whole _) cc0_scratch4 cc0_scratch5 cc0_scratch6 cc0_scratch7 cc0_scratch8 cc0_scratch9) (fun _ => post m ρ c)
  exact sound m ρ c

end Cert.Paged
-- ==== Proof.Run.lean ====
/-
# The run

The exchange's cells allocated for all devices at once and their duty tokens dealt to the devices that pay them, the credit each
device waits for, and the run of the program on the mesh.
-/
module

public import proofs.«01_k».proof.Proof.Launch
public import Idealize.ShloMosaic.Lib.Pipeline.Quiescent

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells and their tokens -/

theorem csem_injective : Function.Injective csem := by
  intro k k' h
  fin_cases k <;> fin_cases k' <;> first | rfl | exact absurd h (by decide)
theorem kcell_injective : Function.Injective (kcell : Dev nD × Fin 5 → GSem nD τ sig) := by
  rintro ⟨c, k⟩ ⟨c', k'⟩ h
  have h1 : c = c' := congrArg (fun g : GSem nD τ sig => g.1.1) h
  have h2 : k = k' := csem_injective (congrArg Prod.snd h)
  rw [h1, h2]
def exCells : Finset (GSem nD τ sig) := Finset.univ.map ⟨kcell, kcell_injective⟩

/-- The duties of a device's own cells: its barrier's two, then one per copy cell. -/
abbrev dutyOf : Fin 6 → Fin 5 × Bool := fun | 0 => (0, false) | 1 => (0, true) | 2 => (1, false) | 3 => (2, false) | 4 => (3, false) | 5 => (4, false)
theorem dutyOf_injective : Function.Injective dutyOf := by decide
abbrev tokOf (cj : Dev nD × Fin 6) : GSem nD τ sig × ℕ × Bool := (kcell (cj.1, (dutyOf cj.2).1), 0, (dutyOf cj.2).2)
theorem tokOf_injective : Function.Injective (tokOf : Dev nD × Fin 6 → GSem nD τ sig × ℕ × Bool) := by
  rintro ⟨c, j⟩ ⟨c', j'⟩ h
  have hk := kcell_injective (congrArg Prod.fst h)
  have h1 : c = c' := congrArg Prod.fst hk
  have h2 : j = j' := dutyOf_injective (Prod.ext (congrArg Prod.snd hk) (congrArg (fun x : GSem nD τ sig × ℕ × Bool => x.2.2) h))
  rw [h1, h2]
def exToks : Finset (GSem nD τ sig × ℕ × Bool) := Finset.univ.map ⟨tokOf, tokOf_injective⟩

def u₀ : UU := (initOf (Pipeline.cells cfgs cellOf_inj) (Pipeline.launchToks cfgs cellOf_inj), (initOf exCells exToks, 1))

def toks (c : Dev nD) : sProp 𝕄 :=
  iprop(dutyTok ER (barCell c) 0 false ∗ dutyTok ER (barCell c) 0 true ∗ dutyTok ER (ysCell c) 0 false ∗ dutyTok ER (yrCell c) 0 false
    ∗ dutyTok ER (xsCell c) 0 false ∗ dutyTok ER (xrCell c) 0 false)

/-- What the launch element deals a device, and what the global step makes of it. -/
def G (c : Dev nD) : sProp 𝕄 :=
  iprop((bigSep Finset.univ fun k : Fin 5 => roundState ER (Sd m) (kcell (c, k)) 0)
    ∗ (bigSep Finset.univ fun k : Fin 5 => iprop(atPos ER (kcell (c, k)) 0 ∅ 0 ∗ reached ER (kcell (c, k)) 0)) ∗ toks c)
def zeros (c : Dev nD) : sProp 𝕄 := iprop(all8 (fun j => zero c (kd j)) ∗ all8 (fun j => zero c (vd j)))
def G' (c : Dev nD) : sProp 𝕄 := iprop((∃ K, ghost (cmOf m) (fmOf m) K c) ∗ zeros c)

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem toks_eq : bigSep exToks (fun x => (dutyTok ER x.1 x.2.1 x.2.2 : sProp 𝕄)) = bigSep Finset.univ fun c : Dev nD => toks c := by
  unfold exToks; rw [bigSep_map, bigSep_univ_prod]
  exact bigSep_congr fun c _ => by unfold toks; rw [bigSep_six]; rfl
omit [FloatOps F] in
theorem cells_eq (Φ : GSem nD τ sig → sProp 𝕄) : bigSep exCells Φ = bigSep Finset.univ fun c : Dev nD => bigSep Finset.univ fun k : Fin 5 => Φ (kcell (c, k)) := by
  unfold exCells; rw [bigSep_map, bigSep_univ_prod]; rfl

theorem fund_ex : BI.own (ER (initOf exCells exToks)) ⊢ (|==> bigSep Finset.univ (G m) : sProp 𝕄) := by
  iintro HX
  imod (Rounds.fund ER (Sd m) exCells exToks) $$ HX with ⟨Hst, Hr, Hat, Htok⟩
  imodintro
  ihave Hst' := (Entails.of_eq (cells_eq fun g => roundState ER (Sd m) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

omit [FloatOps F] in
theorem own_launch (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

omit [FloatOps F] in
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 5 => semVal (kcell (c, k)) 0) ∗ zeros c) : sProp 𝕄) := by
  rw [unscopedSems0_eq, bigSep_five]; unfold zeros
  iintro ⟨Ho, HB⟩
  ihave H := (own_split (F := F) c) $$ Ho
  icases H with ⟨Hk, Hv, H1, H2, H3, H4⟩
  isplitr [Hk Hv]
  · isplitl [HB]; · iexact HB
    isplitl [H1]; · iexact H1
    isplitl [H2]; · iexact H2
    isplitl [H3] <;> iassumption
  isplitl [Hk] <;> iassumption

/-- A device's five invariants, allocated from its five cells at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Sd m) κ (kcell (c, k))))
          ∗ (bigSep Finset.univ fun k => iprop(atPos ER (kcell (c, k)) 0 ∅ 0 ∗ reached ER (kcell (c, k)) 0)) ∗ toks c ∗ zeros c) := by
  unfold G
  iintro ⟨Hos, Hus, Hst, Hat, Htok⟩
  ihave H := (sems_split (F := F) c) $$ [Hos Hus]
  · isplitl [Hos] <;> iassumption
  icases H with ⟨Hv, Hz⟩
  imod (show iprop((bigSep Finset.univ fun k : Fin 5 => semVal (kcell (c, k)) 0) ∗ bigSep Finset.univ fun k : Fin 5 => roundState ER (Sd m) (kcell (c, k)) 0)
      ⊢ (|={Set.univ}=> bigSep Finset.univ fun k => iprop(∃ κ : ℕ, cellInv ER (Sd m) κ (kcell (c, k))) : sProp 𝕄) from by
        rw [← bigSep_sep']
        exact (bigSep_mono fun k _ => (Rounds.body_intro ER (Sd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

/-- The facts every device shares: all the invariants, all the cells at round 0. -/
def records (K : Dev nD × Fin 5 → ℕ) : sProp 𝕄 :=
  iprop((bigSep Finset.univ fun ck : Dev nD × Fin 5 => cellInv ER (Sd m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (Sd m) (K ck) (kcell ck) : sProp 𝕄)) ⊢ cellInv ER (Sd m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens a device pays with: its peers' barrier and receive duties, its own send duties. -/
def payToks (c : Dev nD) : sProp 𝕄 :=
  iprop(dutyTok ER (barCell (ypeer c)) 0 false ∗ dutyTok ER (barCell (xpeer c)) 0 true
    ∗ dutyTok ER (ysCell c) 0 false ∗ dutyTok ER (yrCell (ypeer c)) 0 false ∗ dutyTok ER (xsCell c) 0 false ∗ dutyTok ER (xrCell (xpeer c)) 0 false)
def positions (c : Dev nD) : sProp 𝕄 :=
  iprop(atPos ER (barCell c) 0 ∅ 0 ∗ atPos ER (ysCell c) 0 ∅ 0 ∗ atPos ER (yrCell c) 0 ∅ 0 ∗ atPos ER (xsCell c) 0 ∅ 0 ∗ atPos ER (xrCell c) 0 ∅ 0)
def linear (c : Dev nD) : sProp 𝕄 := iprop(positions c ∗ payToks c ∗ zeros c)

theorem ghost_intro (K : Dev nD × Fin 5 → ℕ) (c : Dev nD) : iprop(records m K ∗ linear c) ⊢ G' m c := by
  unfold records linear positions payToks G' ghost
  iintro ⟨⟨#HI, #HR⟩, Hpos, Htok, Hz⟩
  isplitr [Hz]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (ypeer c, 0)); iexact HI
      isplitr; · iapply (inv_at m K (xpeer c, 0)); iexact HI
      isplitr; · iapply (inv_at m K (ypeer c, 2)); iexact HI
      iapply (inv_at m K (xpeer c, 4)); iexact HI
    isplitl [Hpos]; · iexact Hpos
    isplitr
    · isplitr; · iapply (reached_at (F := F) (ypeer c, 0)); iexact HR
      isplitr; · iapply (reached_at (F := F) (xpeer c, 0)); iexact HR
      isplitr; · iapply (reached_at (F := F) (c, 1)); iexact HR
      isplitr; · iapply (reached_at (F := F) (c, 2)); iexact HR
      isplitr; · iapply (reached_at (F := F) (c, 3)); iexact HR
      iapply (reached_at (F := F) (c, 4)); iexact HR
    iexact Htok
  iexact Hz

omit [FloatOps F] in
/-- Each token moves to the peer that pays it: the row's along `yring`, the column's along `xring`. -/
theorem toks_dealt : (bigSep Finset.univ fun c : Dev nD => (toks c : sProp 𝕄)) ⊢ bigSep Finset.univ fun c : Dev nD => payToks c := by
  unfold toks payToks
  simp only [bigSep_sep']
  rw [bigSep_univ_equiv yring (fun c : Dev nD => (dutyTok ER (barCell c) 0 false : sProp 𝕄)),
    bigSep_univ_equiv xring (fun c : Dev nD => (dutyTok ER (barCell c) 0 true : sProp 𝕄)),
    bigSep_univ_equiv yring (fun c : Dev nD => (dutyTok ER (yrCell c) 0 false : sProp 𝕄)),
    bigSep_univ_equiv xring (fun c : Dev nD => (dutyTok ER (xrCell c) 0 false : sProp 𝕄))]
  exact Entails.refl _

omit [FloatOps F] in
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem positions_of : (bigSep Finset.univ fun c : Dev nD => bigSep Finset.univ fun k : Fin 5 => (atPos ER (kcell (c, k)) 0 ∅ 0 : sProp 𝕄)) ⊢ bigSep Finset.univ positions :=
  bigSep_mono fun c _ => show (bigSep Finset.univ fun k : Fin 5 => (atPos ER (kcell (c, k)) 0 ∅ 0 : sProp 𝕄)) ⊢ positions c from
    Entails.of_eq (by unfold positions; rw [bigSep_five])

theorem regroup :
    (bigSep Finset.univ fun c : Dev nD => iprop((bigSep Finset.univ fun k => iprop(∃ κ : ℕ, cellInv ER (Sd m) κ (kcell (c, k))))
          ∗ (bigSep Finset.univ fun k => iprop(atPos ER (kcell (c, k)) 0 ∅ 0 ∗ reached ER (kcell (c, k)) 0)) ∗ toks c ∗ zeros c) : sProp 𝕄)
      ⊢ bigSep Finset.univ (G' m) := by
  rw [bigSep_sep', bigSep_sep', bigSep_sep', ← bigSep_univ_prod (fun ck : Dev nD × Fin 5 => iprop(∃ κ : ℕ, cellInv ER (Sd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok, Hz⟩
  ihave HK := (BI.bigSep_exists_pi Finset.univ (fun (ck : Dev nD × Fin 5) (κ : ℕ) => (cellInv ER (Sd m) κ (kcell ck) : sProp 𝕄))) $$ HI
  icases HK with ⟨%K, #HI⟩
  ihave Htk := (toks_dealt (F := F)) $$ Htok
  iapply (with_records (R := records m K) fun c _ => ghost_intro m K c)
  isplitr
  · unfold records; isplitl; · iexact HI
    iexact HR
  · unfold linear
    simp only [bigSep_sep']
    isplitl [Hat]
    · iapply (positions_of (F := F)); iexact Hat
    isplitl [Htk]; · iexact Htk
    iexact Hz

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit a device waits for -/

/-- What `d` owes on its peer's cell, seen from device `c`'s cell of that name. -/
theorem tally_peer (p : Dev nD → Dev nD) (hp : ∀ c, p (p c) = c) (sm : SemLoc sig) (n : ℕ) (d c : Dev nD) :
    (tallyAt ((p d : Thread nD τ), sm) () n : CellTallies nD τ sig Unit) ((c : Thread nD τ), sm) () = if d = p c then n else 0 := by
  rw [tallyAt_apply]
  by_cases h : d = p c
  · subst h; rw [hp, if_pos ⟨rfl, rfl⟩, if_pos rfl]
  · rw [if_neg h, if_neg]
    rintro ⟨h1, -⟩
    refine h ?_
    have h2 : c = p d := congrArg (fun g : GSem nD τ sig => g.1.1) h1
    rw [h2, hp]
theorem tally_other (a b : Dev nD) (sm sm' : SemLoc sig) (h : sm ≠ sm') (n : ℕ) :
    (tallyAt ((a : Thread nD τ), sm') () n : CellTallies nD τ sig Unit) ((b : Thread nD τ), sm) () = 0 := by
  rw [tallyAt_apply, if_neg]
  rintro ⟨h1, -⟩
  exact h (congrArg Prod.snd h1)

theorem owed_split (d : Dev nD) (g : GSem nD τ sig) :
    O₀ d g () = (tallyAt (xrCell (xpeer d)) () Nx : CellTallies nD τ sig Unit) g () + (tallyAt (yrCell (ypeer d)) () Ny : CellTallies nD τ sig Unit) g ()
      + (tallyAt (barCell (xpeer d)) () 1 : CellTallies nD τ sig Unit) g () + (tallyAt (barCell (ypeer d)) () 1 : CellTallies nD τ sig Unit) g () := rfl

theorem owed_bar (d c : Dev nD) : O₀ d (barCell c) () = (if d = xpeer c then 1 else 0) + (if d = ypeer c then 1 else 0) := by
  rw [owed_split, tally_other _ _ _ _ xr_ne_bar.symm, tally_other _ _ _ _ yr_ne_bar.symm, tally_peer xpeer xpeer_xpeer, tally_peer ypeer ypeer_ypeer,
    Nat.zero_add]
theorem owed_yr (d c : Dev nD) : O₀ d (yrCell c) () = if d = ypeer c then Ny else 0 := by
  rw [owed_split, tally_other _ _ _ _ xr_ne_yr.symm, tally_other _ _ _ _ yr_ne_bar, tally_other _ _ _ _ yr_ne_bar, tally_peer ypeer ypeer_ypeer,
    Nat.zero_add, Nat.add_zero]
theorem owed_xr (d c : Dev nD) : O₀ d (xrCell c) () = if d = xpeer c then Nx else 0 := by
  rw [owed_split, tally_other _ _ _ _ xr_ne_yr, tally_other _ _ _ _ xr_ne_bar, tally_other _ _ _ _ xr_ne_bar, tally_peer xpeer xpeer_xpeer,
    Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xpeer c) fun _ => 1, Finset.sum_ite_eq' Finset.univ (ypeer c) fun _ => 1, if_pos (Finset.mem_univ _), if_pos (Finset.mem_univ _)]
theorem launch_yr (c : Dev nD) :
    tallyOn (yrCell c) (launchCredit (Pipeline.owing O₀) 0 (yrCell c)) = (tallyAt (yrCell c) () Ny : CellTallies nD τ sig Unit) := by
  unfold tallyAt; refine congrArg _ (Finsupp.ext fun u => ?_); cases u
  rw [Pipeline.launchCredit_owing, Finsupp.single_eq_same, Finset.sum_congr rfl fun d _ => owed_yr d c, Finset.sum_ite_eq' Finset.univ (ypeer c) fun _ => Ny,
    if_pos (Finset.mem_univ _)]
theorem launch_xr (c : Dev nD) :
    tallyOn (xrCell c) (launchCredit (Pipeline.owing O₀) 0 (xrCell c)) = (tallyAt (xrCell c) () Nx : CellTallies nD τ sig Unit) := by
  unfold tallyAt; refine congrArg _ (Finsupp.ext fun u => ?_); cases u
  rw [Pipeline.launchCredit_owing, Finsupp.single_eq_same, Finset.sum_congr rfl fun d _ => owed_xr d c, Finset.sum_ite_eq' Finset.univ (xpeer c) fun _ => Nx,
    if_pos (Finset.mem_univ _)]

omit [FloatOps F] in
theorem creds (c : Dev nD) :
    (Pipeline.launchCred O₀ c : sProp 𝕄) ⊢ iprop(cred (tallyAt (barCell c) () 2) ∗ cred (tallyAt (yrCell c) () Ny) ∗ cred (tallyAt (xrCell c) () Nx)) := by
  unfold Pipeline.launchCred
  rw [bigSep_univ_at _ (SemLoc.reg barS), launch_bar]
  refine sep_mono_right ?_
  rw [← launch_yr, ← launch_xr, BI.bigSep_erase (Finset.mem_erase.mpr ⟨yr_ne_bar, Finset.mem_univ _⟩)]
  exact sep_mono_right (bigSep_elim (Finset.mem_erase.mpr ⟨xr_ne_yr, Finset.mem_erase.mpr ⟨xr_ne_bar, Finset.mem_univ _⟩⟩))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' zeros
  iintro ⟨⟨HK, HV⟩, Hlev, Hcr, -, HG⟩
  ihave Hc := (creds (F := F) c) $$ Hcr
  imodintro
  isplitl
  · isplitl [HG]; · iexact HG
    isplitl [Hc]; · iexact Hc
    isplitl [Hlev]; · iexact Hlev
    isplitl [HK]; · iexact HK
    iexact HV
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

/-- What a device hands over at the end, to be read: the barrier's counter and the two arrays of pages. -/
def tail (c : Dev nD) : sProp 𝕄 := iprop(unscopedSems0 c ∗ held c kM (kOf m c) ∗ held c vM (vOf m c))

theorem phi1_exit (c : Dev nD) :
    (dats m ρ 0 c).Φ (Fin.last cfg0.N) ⊢ iprop(tail m c ∗ Pipeline.ownSems0 osem c ∗ Pipeline.scopedRest cfg0.spec c) := by
  rw [show (dats m ρ 0 c).Φ (Fin.last cfg0.N) = Φ₁ m c from rfl]
  exact Entails.refl _

theorem lv_zero (c : Dev nD) (s : DmaSem sig) (h : (SemLoc.dma s : SemLoc sig) ≠ .dma yrS) (h' : (SemLoc.dma s : SemLoc sig) ≠ .dma xrS) :
    lv ((c : Thread nD τ), .dma s) () = 0 := by dsimp only [lv]; rw [if_neg (fun h => by cases h), if_neg h, if_neg h']

theorem waits (c : Dev nD) : (levAts L lv : sProp 𝕄) ⊢ Pipeline.cellsWaits cfgs (dats m ρ) () 0 c :=
  Pipeline.cellsWaits_intro cfgs (dats m ρ) () 0 c fun w s t =>
    mayWait_low c _ (lv_zero c _ (by fin_cases w <;> fin_cases s <;> decide) (by fin_cases w <;> fin_cases s <;> decide)) _ (by
      rcases t with ⟨_ | _, ht⟩
      · exact Or.inl rfl
      · exact Or.inr (Or.inr (Or.inr rfl)))

/-! ## The run -/

def finalA (c : Dev nD) (w : Fin cfg0.W) : Buf (Elt F) ((cfg0.win w).arr.view.loc (c : Thread nD τ)) := (dats m ρ 0 c).arrAt w cfg0.N

/-- Every window's array as the pipeline leaves it, the pages as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1) ∧ r.2.mem ((c : Thread nD τ).loc main_arg2) = m ((c : Thread nD τ).loc main_arg2)

theorem read_tail (c : Dev nD) (s' : Phys nD τ sig (Elt F)) :
    iprop(tail m c ∗ emp ∗ SI s') ⊢ (|={Set.univ}=> iprop(⌜(s'.mem.mem ((c : Thread nD τ).loc main_arg1) = m ((c : Thread nD τ).loc main_arg1)
        ∧ s'.mem.mem ((c : Thread nD τ).loc main_arg2) = m ((c : Thread nD τ).loc main_arg2))
        ∧ ∀ sm : SemLoc sig, sm.isScoped .tc = false → s'.mem.sem ((c.tc : Thread nD τ), sm) = 0⌝ ∗ SI s') : sProp 𝕄) := by
  unfold tail
  iintro ⟨⟨Hu, HK, HV⟩, -, HSI⟩
  icombine HSI HK gives %hk
  icombine HSI HV gives %hv
  ihave %hs := (tcUnscoped_read c s') $$ [Hu HSI]
  · isplitl [Hu] <;> iassumption
  imodintro
  isplitr
  · ipureintro
    exact ⟨⟨Buf.eq_of_forall_mem_univ hk, Buf.eq_of_forall_mem_univ hv⟩, hs⟩
  iexact HSI

set_option maxRecDepth 8000 in
/-- From any memory with zero counters every weakly fair execution of the program terminates, each device's arrays as computed, its
    pages unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (own_launch _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := tail m) (Z := fun _ => iprop(emp))
    (hX := start_intro m ρ) (hin := phi0_intro m ρ) (hout := phi1_exit m ρ)
    (QY := fun c s => (s.mem ((c : Thread nD τ).loc main_arg1) = m ((c : Thread nD τ).loc main_arg1)
        ∧ s.mem ((c : Thread nD τ).loc main_arg2) = m ((c : Thread nD τ).loc main_arg2))
        ∧ ∀ sm : SemLoc sig, sm.isScoped .tc = false → s.sem ((c.tc : Thread nD τ), sm) = 0)
    (hY := read_tail m)
    (hQ := fun _ h hs => ⟨fun c => ⟨fun w => (h c).1 w, (h c).2.2.1⟩, sem_eq_zero hs fun c => (h c).2.2.2⟩)

end Cert.Paged
-- ==== Proof.Frames.lean ====
/-
# The frames

The three programs run, leave their arguments as they were and every counter at zero.
-/
module

public import proofs.«01_k».proof.Defs
public import proofs.«01_k».proof.Proof.Run
public import Idealize.ShloMosaic.Lib.Pipeline.ValueKit.Geometry
public import proofs.«01_k».proof.Proof.Gen.Kernel
public import proofs.«01_k».proof.Proof.Gen.ReferenceIdeal.Run

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- A window that is only read ends at its launch contents. -/
theorem finalA_in (c : Dev nD) (w : Fin cfg0.W) (h : (cfg0.win w).isOut = false) : finalA m ρ c w = m ((cfg0.win w).arr.view.loc (c : Thread nD τ)) :=
  (dats m ρ 0 c).arrAt_in w h _

/-- The result array ends at what the device stored. -/
theorem finalA_out (c : Dev nD) : finalA m ρ c (3 : Fin 4) = resOf m c :=
  (dats m ρ 0 c).arrAt_eq_of_after_last (3 : Fin 4) t₀ (by decide +kernel) (resOf m c) fun j => rfl

theorem qOf_apply (c : Dev nD) (j : S16x1x16x64.Idx) : qOf m c j = m ((c : Thread nD τ).loc main_arg0) j := by
  unfold qOf
  rw [show (win0_0.blk (0 : Fin 1)).view.read (Elt F) (m ((c : Thread nD τ).loc main_arg0)) j
    = m ((c : Thread nD τ).loc main_arg0) ((win0_0.rect (0 : Fin 1)).emb j) from rfl]
  congr 1
  funext a; apply Fin.ext
  exact Window.rect_emb_val_of_index_zero win0_0 t₀ a rfl j

/-- The program's run, read at its arguments, its result and the counters. -/
theorem run_args : θ_run defs (onTc (τ := τ) (main (F := F))) ⟨m, fun _ => 0, ρ⟩ (fun r => (∀ c : Dev nD,
      r.2.mem ((c : Thread nD τ).loc main_v1) = resOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
    ⟨((h.1 c).1 3).trans (finalA_out m ρ c), ((h.1 c).1 0).trans (finalA_in m ρ c 0 rfl), (h.1 c).2.1, (h.1 c).2.2,
      ((h.1 c).1 1).trans (finalA_in m ρ c 1 rfl), ((h.1 c).1 2).trans (finalA_in m ρ c 2 rfl)⟩, h.2⟩) (run_main m ρ)

theorem defs_kernel : Cert.Kernel.defs (F := Bits) = defs (F := Bits) := by sl_kernel_rfl
theorem frame_kernel : Cert.quiescent_Kernel := by
  intro m ρ _
  have h := run_args (F := Bits) m ρ
  rw [← defs_kernel] at h
  exact (θ_run Cert.Kernel.defs _ _).mono (fun _ h => ⟨fun c => (h.1 c).2, h.2⟩) h
theorem frame_ideal : Cert.quiescent_KernelIdeal := fun m ρ _ =>
  (θ_run Cert.KernelIdeal.defs _ _).mono (fun _ h => ⟨fun c => (h.1 c).2, h.2⟩) (run_args (F := Ideal) m ρ)
theorem frame_ideal_pre [Cert.Pre_well_formed_KernelIdeal.Facts] : Cert.quiescent_KernelIdeal_pre_well_formed_KernelIdeal := fun m ρ _ =>
  (θ_run Cert.KernelIdeal.defs _ _).mono (fun _ h => ⟨fun c => (h.1 c).2, h.2⟩) (run_args (F := Ideal) m ρ)
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)
theorem frame_reference_pre [Cert.Pre_well_formed_ReferenceIdeal.Facts] : Cert.quiescent_ReferenceIdeal_pre_well_formed_ReferenceIdeal := fun m ρ _ =>
  (θ_run Cert.ReferenceIdeal.defs _ _).mono (fun r h => ⟨fun c => (h c).2, sem_eq_zero_of_no_sems (by decide) r.2⟩) (Cert.ReferenceIdeal.Value.run m ρ)

end Cert.Paged

end
-- ==== Proof.Softmax.lean ====
/-
# The softmax over the pages a sequence names

A sequence attends to the keys of the pages its live blocks name, a page as often as it is named. The kernel counts how
often a page is named and weighs the page's keys by that number; each half of the pages is summed relative to a number of
its own and the two sums are then brought together. The reference reads the pages block by block. Both come to
`attended`, whatever numbers the scores were taken relative to.
-/
module

public import Idealize.ShloMosaic.Lib.Pointwise

@[expose] public section

noncomputable section

namespace Cert.Paged

open Idealize.ShloMosaic

/-! ## Sums of extended reals -/

theorem real_mul_sum {ι : Type*} (r : ℝ) (hr : 0 ≤ r) (s : Finset ι) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hr) (EReal.coe_ne_top r) _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many numbers below ⊤, one of them a real, is a real. -/
theorem exists_max {ι : Type*} [Fintype ι] (f : ι → EReal) (ht : ∀ i, f i ≠ ⊤) (hb : ∃ i, f i ≠ ⊥) :
    ∃ r : ℝ, Finset.univ.fold max ⊥ f = (r : EReal) := by
  have h1 : Finset.univ.fold max ⊥ f < ⊤ :=
    (Finset.fold_max_lt ⊤).2 ⟨bot_lt_top, fun i _ => lt_top_iff_ne_top.2 (ht i)⟩
  obtain ⟨i, hi⟩ := hb
  have h2 : f i ≤ Finset.univ.fold max ⊥ f := (Finset.le_fold_max (f i)).2 (.inr ⟨i, Finset.mem_univ i, le_rfl⟩)
  have h3 : Finset.univ.fold max ⊥ f ≠ ⊥ := fun h => hi (le_bot_iff.1 (h ▸ h2))
  exact ⟨_, (EReal.coe_toReal h1.ne h3).symm⟩

/-! ## Keys as places of pages -/

/-- The page, among 128, and the place in it of a key. -/
abbrev pageOf (κ : Fin 2048) : Fin 128 := ⟨κ.val / 16, by omega⟩
abbrev placeOf (κ : Fin 2048) : Fin 16 := ⟨κ.val % 16, by omega⟩
/-- A page of half `y`, among all. -/
abbrev pageIn (y : Fin 2) (p : Fin 128) : Fin 256 := ⟨p.val + 128 * y.val, by omega⟩

theorem sum_keys {M : Type*} [AddCommMonoid M] (g : Fin 128 → Fin 16 → M) : ∑ κ : Fin 2048, g (pageOf κ) (placeOf κ) = ∑ p, ∑ o, g p o := by
  rw [← Fintype.sum_prod_type', ← Equiv.sum_comp (finProdFinEquiv (m := 128) (n := 16)).symm]
  rfl

theorem sum_halves {M : Type*} [AddCommMonoid M] (g : Fin 256 → M) : ∑ p, g (pageIn 0 p) + ∑ p, g (pageIn 1 p) = ∑ P, g P := by
  rw [show ∑ P, g P = ∑ P : Fin (128 + 128), g P from rfl, Fin.sum_univ_add]
  refine congrArg₂ (· + ·) rfl (Finset.sum_congr rfl fun p _ => congrArg g (Fin.ext ?_))
  show p.val + 128 * 1 = 128 + p.val
  omega

section Attention
variable (live : Fin 128 → Prop) [DecidablePred live] (page : Fin 128 → Fin 256) (a : Fin 256 → Fin 16 → ℝ)

/-- How often live blocks name a page. -/
def count (P : Fin 256) : ℕ := (Finset.univ.filter fun t => live t ∧ page t = P).card

theorem sum_count {M : Type*} [AddCommMonoid M] (f : Fin 256 → M) : ∑ P, count live page P • f P = ∑ t, if live t then f (page t) else 0 := by
  rw [← Finset.sum_filter, ← Finset.sum_fiberwise' (Finset.univ.filter live) page f]
  refine Finset.sum_congr rfl fun P _ => ?_
  rw [Finset.sum_const, Finset.filter_filter]
  rfl

/-- The values weighed by the exponentials of their keys' scores, and the exponentials' sum. -/
def weighed (V : Fin 256 → Fin 16 → EReal) : EReal := ∑ t, if live t then ∑ o, ((Real.exp (a (page t) o) : ℝ) : EReal) * V (page t) o else 0
def total : ℝ := ∑ t, if live t then ∑ o, Real.exp (a (page t) o) else 0

/-- What a sequence attends to. -/
def attended (V : Fin 256 → Fin 16 → EReal) : EReal := weighed live page a V * ((1 / total live page a : ℝ) : EReal)

theorem total_pos (h : ∃ t, live t) : 0 < total live page a := by
  obtain ⟨t, ht⟩ := h
  have hpos : ∀ P, 0 < ∑ o, Real.exp (a P o) := fun P => Finset.sum_pos (fun o _ => Real.exp_pos _) Finset.univ_nonempty
  refine Finset.sum_pos' (fun i _ => ?_) ⟨t, Finset.mem_univ t, ?_⟩
  · split
    · exact (hpos _).le
    · exact le_rfl
  · rw [if_pos ht]; exact hpos _

theorem weighed_one : weighed live page a (fun _ _ => 1) = ((total live page a : ℝ) : EReal) := by
  unfold weighed total
  rw [coe_sum]
  refine Finset.sum_congr rfl fun t _ => ?_
  split
  · rw [coe_sum]; exact Finset.sum_congr rfl fun o _ => mul_one _
  · rfl

/-- A quotient of the weighed values by the total, both scaled. -/
theorem div_scaled (V : Fin 256 → Fin 16 → EReal) (h : ∃ t, live t) (r : ℝ) (hr : 0 < r) :
    Ideal.div ((r : EReal) * weighed live page a V) ((r : EReal) * weighed live page a fun _ _ => 1) = attended live page a V := by
  have hz := total_pos live page a h
  rw [weighed_one, ← EReal.coe_mul, Ideal.div_coe (mul_pos hr hz).ne', attended, mul_comm (r : EReal), mul_assoc, ← EReal.coe_mul,
    show r * (1 / (r * total live page a)) = 1 / total live page a by field_simp]

/-! ## The kernel's side -/

variable (C : Fin 256 → ℕ) (N : ℝ)

/-- A key's score, the same number for all keys of a page that is never named; and its weight. -/
def kscore (y : Fin 2) (κ : Fin 2048) : EReal :=
  if C (pageIn y (pageOf κ)) = 0 then (N : EReal) else ((a (pageIn y (pageOf κ)) (placeOf κ) : ℝ) : EReal)
def kweight (y : Fin 2) (m : EReal) (κ : Fin 2048) : EReal := Ideal.exp (kscore a C N y κ - m) * ((C (pageIn y (pageOf κ)) : ℝ) : EReal)

theorem kscore_max (y : Fin 2) : ∃ r : ℝ, Finset.univ.fold max ⊥ (kscore a C N y) = (r : EReal) := by
  refine exists_max _ (fun κ => ?_) ⟨0, ?_⟩ <;> unfold kscore <;> split
  exacts [EReal.coe_ne_top _, EReal.coe_ne_top _, EReal.coe_ne_bot _, EReal.coe_ne_bot _]

theorem kweight_eq (y : Fin 2) (m : ℝ) (κ : Fin 2048) : kweight a C N y m κ
    = ((Real.exp (a (pageIn y (pageOf κ)) (placeOf κ) - m) * C (pageIn y (pageOf κ)) : ℝ) : EReal) := by
  unfold kweight kscore
  split
  · rename_i h; rw [h]; simp
  · rw [← EReal.coe_sub, Ideal.exp_coe, EReal.coe_mul]

/-- One half's weighed values, brought to a number `M`. -/
theorem half_scaled (y : Fin 2) (m M : ℝ) (V : Fin 256 → Fin 16 → EReal) :
    (∑ κ, kweight a C N y m κ * V (pageIn y (pageOf κ)) (placeOf κ)) * Ideal.exp ((m : EReal) - (M : EReal))
      = ((Real.exp (-M) : ℝ) : EReal) * ∑ p, C (pageIn y p) • ∑ o, ((Real.exp (a (pageIn y p) o) : ℝ) : EReal) * V (pageIn y p) o := by
  rw [← EReal.coe_sub, Ideal.exp_coe, mul_comm, real_mul_sum _ (Real.exp_pos _).le, real_mul_sum _ (Real.exp_pos _).le]
  simp only [kweight_eq]
  refine (sum_keys fun p o => ((Real.exp (m - M) : ℝ) : EReal) * (((Real.exp (a (pageIn y p) o - m) * C (pageIn y p) : ℝ) : EReal) * V (pageIn y p) o)).trans ?_
  refine Finset.sum_congr rfl fun p _ => ?_
  rw [EReal.nsmul_eq_mul, ← mul_assoc, show ((C (pageIn y p) : ℕ) : EReal) = ((C (pageIn y p) : ℝ) : EReal) from rfl, ← EReal.coe_mul,
    real_mul_sum _ (mul_nonneg (Real.exp_pos _).le (Nat.cast_nonneg _))]
  refine Finset.sum_congr rfl fun o _ => ?_
  rw [← mul_assoc, ← mul_assoc, ← EReal.coe_mul, ← EReal.coe_mul]
  congr 2
  rw [← mul_assoc, ← Real.exp_add, mul_right_comm, ← Real.exp_add]
  congr 2
  ring

/-- What the kernel computes from the two halves. -/
theorem kernel_attended (hC : C = count live page) (h : ∃ t, live t) (V : Fin 256 → Fin 16 → EReal) (m : Fin 2 → EReal)
    (hm : ∀ y, m y = Finset.univ.fold max ⊥ (kscore a C N y)) :
    Ideal.div
        ((∑ κ, kweight a C N 0 (m 0) κ * V (pageIn 0 (pageOf κ)) (placeOf κ)) * Ideal.exp (m 0 - max (m 0) (m 1))
          + (∑ κ, kweight a C N 1 (m 1) κ * V (pageIn 1 (pageOf κ)) (placeOf κ)) * Ideal.exp (m 1 - max (m 0) (m 1)))
        ((∑ κ, kweight a C N 0 (m 0) κ) * Ideal.exp (m 0 - max (m 0) (m 1)) + (∑ κ, kweight a C N 1 (m 1) κ) * Ideal.exp (m 1 - max (m 0) (m 1)))
      = attended live page a V := by
  obtain ⟨r0, h0⟩ := kscore_max a C N 0
  obtain ⟨r1, h1⟩ := kscore_max a C N 1
  have hM : max (m 0) (m 1) = ((max r0 r1 : ℝ) : EReal) := by
    rw [hm, hm, h0, h1]; exact (EReal.coe_strictMono.monotone.map_max).symm
  rw [hM, hm 0, hm 1, h0, h1]
  have hw (V : Fin 256 → Fin 16 → EReal) :
      (∑ κ, kweight a C N 0 r0 κ * V (pageIn 0 (pageOf κ)) (placeOf κ)) * Ideal.exp ((r0 : EReal) - ((max r0 r1 : ℝ) : EReal))
          + (∑ κ, kweight a C N 1 r1 κ * V (pageIn 1 (pageOf κ)) (placeOf κ)) * Ideal.exp ((r1 : EReal) - ((max r0 r1 : ℝ) : EReal))
        = ((Real.exp (-(max r0 r1)) : ℝ) : EReal) * weighed live page a V := by
    rw [half_scaled, half_scaled, ← EReal.left_distrib_of_nonneg_of_ne_top (EReal.coe_nonneg.2 (Real.exp_pos _).le) (EReal.coe_ne_top _),
      sum_halves fun P => C P • ∑ o, ((Real.exp (a P o) : ℝ) : EReal) * V P o, hC,
      sum_count live page fun P => ∑ o, ((Real.exp (a P o) : ℝ) : EReal) * V P o]
    rfl
  have h1' := hw fun _ _ => 1
  simp only [mul_one] at h1'
  rw [hw, h1']
  exact div_scaled live page a V h _ (Real.exp_pos _)

/-! ## The reference's side -/

/-- A key's score, none for the keys of a block that is not live. -/
def rscore (κ : Fin 2048) : EReal := if live (pageOf κ) then ((a (page (pageOf κ)) (placeOf κ) : ℝ) : EReal) else ⊥

theorem rexp_eq (M : ℝ) (κ : Fin 2048) : Ideal.exp (rscore live page a κ - (M : EReal))
    = ((Real.exp (-M) * if live (pageOf κ) then Real.exp (a (page (pageOf κ)) (placeOf κ)) else 0 : ℝ) : EReal) := by
  unfold rscore
  split
  · rw [← EReal.coe_sub, Ideal.exp_coe, ← Real.exp_add]; congr 2; ring
  · rw [EReal.bot_sub, Ideal.exp_bot, mul_zero]; rfl

theorem reference_attended (h : ∃ t, live t) (V : Fin 256 → Fin 16 → EReal) (W : Fin 2048 → EReal)
    (hW : ∀ κ, live (pageOf κ) → W κ = V (page (pageOf κ)) (placeOf κ)) (M : EReal) (hM : M = Finset.univ.fold max ⊥ (rscore live page a)) :
    ∑ κ, W κ * Ideal.div (Ideal.exp (rscore live page a κ - M)) (∑ κ', Ideal.exp (rscore live page a κ' - M)) = attended live page a V := by
  obtain ⟨r, hr⟩ : ∃ r : ℝ, Finset.univ.fold max ⊥ (rscore live page a) = (r : EReal) := by
    obtain ⟨t, ht⟩ := h
    refine exists_max _ (fun κ => ?_) ⟨⟨16 * t.val, by omega⟩, ?_⟩ <;> unfold rscore
    · split
      exacts [EReal.coe_ne_top _, bot_ne_top]
    · rw [if_pos]
      · exact EReal.coe_ne_bot _
      · rwa [show pageOf ⟨16 * t.val, by omega⟩ = t from Fin.ext (show 16 * t.val / 16 = t.val by omega)]
  rw [hM, hr]
  have hz := total_pos live page a h
  have hden : ∑ κ', Ideal.exp (rscore live page a κ' - (r : EReal)) = ((Real.exp (-r) * total live page a : ℝ) : EReal) := by
    simp only [rexp_eq]
    rw [← coe_sum, ← Finset.mul_sum]
    congr 2
    refine (sum_keys fun t o => if live t then Real.exp (a (page t) o) else 0).trans (Finset.sum_congr rfl fun t _ => ?_)
    split
    · rfl
    · exact Finset.sum_const_zero
  rw [hden]
  have hterm (κ : Fin 2048) : W κ * Ideal.div (Ideal.exp (rscore live page a κ - (r : EReal))) ((Real.exp (-r) * total live page a : ℝ) : EReal)
      = ((1 / total live page a : ℝ) : EReal)
        * if live (pageOf κ) then ((Real.exp (a (page (pageOf κ)) (placeOf κ)) : ℝ) : EReal) * V (page (pageOf κ)) (placeOf κ) else 0 := by
    rw [rexp_eq, Ideal.div_coe (mul_pos (Real.exp_pos _) hz).ne', ← EReal.coe_mul]
    split
    · rename_i hl
      rw [hW κ hl, ← mul_assoc, ← EReal.coe_mul, mul_comm]
      congr 2
      have := (Real.exp_pos (-r)).ne'
      field_simp
    · simp
  rw [Finset.sum_congr rfl fun κ _ => hterm κ, ← real_mul_sum _ (one_div_pos.2 hz).le, attended, mul_comm]
  congr 1
  refine (sum_keys fun t o => if live t then ((Real.exp (a (page t) o) : ℝ) : EReal) * V (page t) o else 0).trans (Finset.sum_congr rfl fun t _ => ?_)
  split
  · rfl
  · exact Finset.sum_const_zero

end Attention

end Cert.Paged
-- ==== Proof.Precondition.lean ====
/-
# The precondition

What `well_formed` says of the arguments: every row has a live block, a live block names a page, and the queries and keys are finite.
-/
module
public import proofs.«01_k».proof.Pre_well_formed_KernelIdeal
public import proofs.«01_k».proof.Pre_well_formed_ReferenceIdeal
public import proofs.«01_k».proof.Proof.Softmax
public import Idealize.ShloMosaic.Lib.ReduceAll
public import Idealize.ShloMosaic.Lib.Affine
public import Idealize.ShloMosaic.Lib.WordCmp
@[expose] public section
noncomputable section
namespace Cert.Paged
open Idealize.ShloMosaic

instance facts_pre_kernel : Cert.Pre_well_formed_KernelIdeal.Facts where
  bcast_S_S16x1 := by decide
  bcast_S128_S1x128_1 := by decide
  bcast_S1x128_S16x128_0_1 := by decide
  bcast_S16x1_S16x128_0_1 := by decide
  bcast_S_S16x128 := by decide
  reducesTo_S16x128_S_d0_1 := by decide
  h_S_ := by decide
  bcast_S_S16x1x16x64 := by decide
  reducesTo_S16x1x16x64_S_d0_1_2_3 := by decide
  bcast_S_S128x16x16x64 := by decide
  reducesTo_S128x16x16x64_S_d0_1_2_3 := by decide

instance facts_pre_reference : Cert.Pre_well_formed_ReferenceIdeal.Facts where
  bcast_S_S16x1 := by decide
  bcast_S128_S1x128_1 := by decide
  bcast_S1x128_S16x128_0_1 := by decide
  bcast_S16x1_S16x128_0_1 := by decide
  bcast_S_S16x128 := by decide
  reducesTo_S16x128_S_d0_1 := by decide
  h_S_ := by decide
  bcast_S_S16x1x16x64 := by decide
  reducesTo_S16x1x16x64_S_d0_1_2_3 := by decide
  bcast_S_S256x16x16x64 := by decide
  reducesTo_S256x16x16x64_S_d0_1_2_3 := by decide

open Cert.Pre_well_formed_KernelIdeal Cert.Pre_well_formed_KernelIdeal.Facts

theorem block_int (t : Fin 128) : (BitVec.ofNat 32 t.val).toInt = t.val := by revert t; decide +kernel

/-- The rows' condition at each block, and an array's condition at each element. -/
def rowOk (b : IVec S16x128 32) (l : IVec S16x1 32) : IVec S16x128 1 :=
  andi (broadcastInDim S16x128 ![0, 1] bcast_S16x1_S16x128_0_1 (cmpi .sge l (broadcastInDim S16x1 ![] bcast_S_S16x1 (constantI S_ 32 1#32))))
    (ori (cmpi .sge (broadcastInDim S16x128 ![0, 1] bcast_S1x128_S16x128_0_1 (broadcastInDim S1x128 ![1] bcast_S128_S1x128_1 (iotaInDim S128 32 0)))
        (broadcastInDim S16x128 ![0, 1] bcast_S16x1_S16x128_0_1 l))
      (andi (cmpi .sge b (broadcastInDim S16x128 ![] bcast_S_S16x128 (constantI S_ 32 0#32)))
        (cmpi .slt b (broadcastInDim S16x128 ![] bcast_S_S16x128 (constantI S_ 32 256#32)))))
def finOk {s : Shape} (h : S_.BroadcastsInDim s (![] : Fin 0 → Fin s.rank)) (x : FVec Ideal s .f32) : IVec s 1 :=
  cmpf .olt (Host.absf x) (broadcastInDim s ![] h (constant S_ .f32 0x7F800000#32))

theorem fn_eq (q : FVec Ideal S16x1x16x64 .f32) (k v : FVec Ideal S128x16x16x64 .f32) (b : IVec S16x128 32) (l : IVec S16x1 32) :
    fn (F := Ideal) q k v b l = andi (andi (Host.reduce IntOp.andi (rowOk b l) (constantI S_ 1 1#1) reducesTo_S16x128_S_d0_1 h_S_)
      (Host.reduce IntOp.andi (finOk bcast_S_S16x1x16x64 q) (constantI S_ 1 1#1) reducesTo_S16x1x16x64_S_d0_1_2_3 h_S_))
      (Host.reduce IntOp.andi (finOk bcast_S_S128x16x16x64 k) (constantI S_ 1 1#1) reducesTo_S128x16x16x64_S_d0_1_2_3 h_S_) := rfl

theorem rowOk_at (b : IVec S16x128 32) (l : IVec S16x1 32) (n : Fin 16) (t : Fin 128) : rowOk b l (ix2 n t)
    = IntOp.andi (IntOp.cmpi .sge (l (ix2 n 0)) 1#32) (IntOp.ori (IntOp.cmpi .sge (BitVec.ofNat 32 t.val) (l (ix2 n 0)))
        (IntOp.andi (IntOp.cmpi .sge (b (ix2 n t)) 0#32) (IntOp.cmpi .slt (b (ix2 n t)) 256#32))) := by
  pointwise [rowOk]

theorem inf_eq : Ideal.ofBits .f32 0x7F800000#32 = ⊤ := by simp [Ideal.ofBits, Ideal.ieee, -EReal.coe_mul]

theorem of_bit {P : Prop} [Decidable P] (h : BitVec.ofBool (decide P) = 1#1) : P := by
  by_contra hn
  rw [decide_eq_false hn] at h
  exact absurd h (by decide)

theorem real_of_finOk {s : Shape} (h : S_.BroadcastsInDim s (![] : Fin 0 → Fin s.rank)) (x : FVec Ideal s .f32) (i : s.Idx) (e : finOk h x i = 1#1) :
    ((EReal.toReal (x i) : ℝ) : EReal) = x i := by
  have e' : Ideal.cmp .olt (max (x i) (-x i)) ⊤ = 1#1 := inf_eq ▸ e
  have hlt : max (x i) (-x i) < ⊤ := by exact of_bit e'
  refine EReal.coe_toReal ((le_max_left _ _).trans_lt hlt).ne fun hb => ?_
  rw [hb] at hlt
  simp at hlt

/-- What the precondition says. -/
structure WellFormed (q : FVec Ideal S16x1x16x64 .f32) (k : FVec Ideal S128x16x16x64 .f32) (b : IVec S16x128 32) (l : IVec S16x1 32) : Prop where
  some_live (n : Fin 16) : 1 ≤ (l (ix2 n 0)).toInt
  names (n : Fin 16) (t : Fin 128) (h : (t.val : ℤ) < (l (ix2 n 0)).toInt) : 0 ≤ (b (ix2 n t)).toInt ∧ (b (ix2 n t)).toInt < 256
  queries (i : S16x1x16x64.Idx) : ((EReal.toReal (q i) : ℝ) : EReal) = q i
  keys (i : S128x16x16x64.Idx) : ((EReal.toReal (k i) : ℝ) : EReal) = k i

theorem wellFormed (q : FVec Ideal S16x1x16x64 .f32) (k v : FVec Ideal S128x16x16x64 .f32) (b : IVec S16x128 32) (l : IVec S16x1 32)
    (h : fn (F := Ideal) q k v b l = fun _ => 1#1) : WellFormed q k b l := by
  rw [fn_eq] at h
  have h0 := congrFun h ix0
  haveI : Subsingleton S_.Idx := ⟨fun x y => funext fun a => a.elim0⟩
  obtain ⟨h12, h3⟩ := IntOp.andi_eq_one.1 h0
  obtain ⟨h1, h2⟩ := IntOp.andi_eq_one.1 h12
  have row (n : Fin 16) (t : Fin 128) := Host.reduce_andi_all _ _ _ _ _ h1 (ix2 n t)
  simp only [rowOk_at, IntOp.andi_eq_one, IntOp.ori_eq_one, WordCmp.cmpi_sge_eq, WordCmp.cmpi_slt_eq] at row
  refine ⟨fun n => ?_, fun n t ht => ?_, fun i => real_of_finOk _ q i (Host.reduce_andi_all _ _ _ _ _ h2 i),
    fun i => real_of_finOk _ k i (Host.reduce_andi_all _ _ _ _ _ h3 i)⟩
  · have := of_bit (row n 0).1
    exact this
  · rcases (row n t).2 with h | h
    · have h' := of_bit h
      rw [block_int] at h'
      omega
    · exact ⟨of_bit h.1, of_bit h.2⟩

end Cert.Paged
-- ==== Proof.Elements.lean ====
/-
# The buffers at an index

What the queries, keys and values of one head, the partials, the finished heads and the result hold at an index, in terms of
the arrays they were computed from.
-/
module
public import proofs.«01_k».proof.Proof.Launch
public import Idealize.ShloMosaic.Lib.Pointwise
@[expose] public section
noncomputable section
namespace Cert.Paged
open Idealize.ShloMosaic Idealize.SL.Sem Cert.KernelIdeal Cert.KernelIdeal.Gen
variable {F : FTy → Type} [FloatOps F]

/-- The number of a head. -/
abbrev headF (x : Fin 2) (j : Fin 8) : Fin 16 := ⟨8 * x.val + j.val, by omega⟩

/-- The coordinate that a rectangle of stride one gives an index. -/
theorem unit_val {s : Shape} (off size : Fin s.rank → ℕ) (inb : ∀ a, off a + size a ≤ s.size a) (y : (Rect.unit off size inb).shape.Idx) (a : Fin s.rank) :
    ((Rect.unit off size inb).emb y a).val = off a + (y a).val :=
  congrArg (off a + ·) (Nat.one_mul _)

theorem qAt_at (q : QBuf F) (x : Fin 2) (j : Fin 8) (n : Fin 16) (d : Fin 64) :
    qAt q x j (ix4 n 0 0 d) = q (ix4 n 0 (headF x j) d) := by
  show q _ = q _
  refine congrArg q (funext fun a => Fin.ext ((unit_val (s := S16x1x16x64) _ _ _ _ a).trans ?_))
  fin_cases a <;> simp

theorem lAt_at (l : LBuf F) (n : Fin 16) (z : Fin 1) : lAt l (ix2 n z) = l (ix2 n z) := by
  show l _ = l _
  refine congrArg l (funext fun a => Fin.ext ((unit_val (s := S16x1) _ _ _ _ a).trans ?_))
  fin_cases a <;> simp
theorem bAt_at (b : BBuf F) (n : Fin 16) (t : Fin 128) : bAt b (ix2 n t) = b (ix2 n t) := by
  show b _ = b _
  refine congrArg b (funext fun a => Fin.ext ((unit_val (s := S16x128) _ _ _ _ a).trans ?_))
  fin_cases a <;> simp

/-- A slot's one leading coordinate dropped, and a page's one head dropped. -/
theorem cast_slot (w : S1x128x16x64.Idx → Elt F .f32) (p : Fin 128) (o : Fin 16) (d : Fin 64) :
    shapeCast S128x16x64 w shapeCasts_S1x128x16x64_S128x16x64 (ix3 p o d) = w (ix4 0 p o d) := by pointwise
theorem casts_page : S128x16x1x64.ShapeCasts S128x16x64 := by decide
theorem cast_page (w : S128x16x1x64.Idx → Elt F .f32) (p : Fin 128) (o : Fin 16) (d : Fin 64) :
    shapeCast S128x16x64 w casts_page (ix3 p o d) = w (ix4 p o 0 d) := by pointwise

theorem kAt_at (k : KBuf F) (x : Fin 2) (j : Fin 8) (p : Fin 128) (o : Fin 16) (d : Fin 64) :
    kAt k x j (ix4 0 p o d) = k (ix4 p o (headF x j) d) := by
  have h (f) := congrFun (Memref.read_squeeze_slice (Val := Elt F) ksM (slotR j) (fun _ => rfl) squeezes_S1x128x16x64_S128x16x64
    shapeCasts_S1x128x16x64_S128x16x64 f) (ix3 p o d)
  have h2 := congrFun (Memref.read_squeeze_slice (Val := Elt F) kM (Rect.unit (s := S128x16x16x64) ![0, 0, head x j, 0] S128x16x1x64.size (kv_inb x j))
    (fun _ => rfl) squeezes_S128x16x1x64_S128x16x64 casts_page k) (ix3 p o d)
  unfold kAt
  refine (cast_slot _ p o d).symm.trans ((h _).symm.trans ?_)
  rw [View.read_writes_whole]
  refine (h2.trans (cast_page _ p o d)).trans ?_
  show k _ = k _
  refine congrArg k (funext fun a => Fin.ext ((unit_val (s := S128x16x16x64) _ _ _ _ a).trans ?_))
  fin_cases a <;> simp

theorem vAt_at (v : VBuf F) (x : Fin 2) (j : Fin 8) (p : Fin 128) (o : Fin 16) (d : Fin 64) :
    vAt v x j (ix4 0 p o d) = v (ix4 p o (headF x j) d) := by
  have h (f) := congrFun (Memref.read_squeeze_slice (Val := Elt F) vsM (slotR j) (fun _ => rfl) squeezes_S1x128x16x64_S128x16x64
    shapeCasts_S1x128x16x64_S128x16x64 f) (ix3 p o d)
  have h2 := congrFun (Memref.read_squeeze_slice (Val := Elt F) vM (Rect.unit (s := S128x16x16x64) ![0, 0, head x j, 0] S128x16x1x64.size (kv_inb x j))
    (fun _ => rfl) squeezes_S128x16x1x64_S128x16x64 casts_page v) (ix3 p o d)
  unfold vAt
  refine (cast_slot _ p o d).symm.trans ((h _).symm.trans ?_)
  rw [View.read_writes_whole]
  refine (h2.trans (cast_page _ p o d)).trans ?_
  show v _ = v _
  refine congrArg v (funext fun a => Fin.ext ((unit_val (s := S128x16x16x64) _ _ _ _ a).trans ?_))
  fin_cases a <;> simp

/-! ## The partials -/

section Partials
variable (c : Dev nD) (q : QBuf F) (k : KBuf F) (v : VBuf F) (b : BBuf F) (l : LBuf F) (x : Fin 2)

/-- What the partials hold at an index of the first half. -/
def partG (y : S2x16x8x66.Idx) : Elt F .f32 :=
  if h : (y 3).val < 64 then colA c q k v b l x (y 2) (ix4 0 (y 1) 0 ⟨(y 3).val, h⟩)
  else if (y 3).val = 64 then colM c q k b l x (y 2) (ix4 0 (y 1) 0 0) else colL c q k b l x (y 2) (ix4 0 (y 1) 0 0)

theorem partG_A (n : Fin 16) (j : Fin 8) (d : Fin 64) :
    partG c q k v b l x (ix4 0 n j ⟨d.val, by omega⟩) = colA c q k v b l x j (ix4 0 n 0 d) := dif_pos d.isLt
theorem partG_M (n : Fin 16) (j : Fin 8) : partG c q k v b l x (ix4 0 n j 64) = colM c q k b l x j (ix4 0 n 0 0) :=
  (dif_neg (show ¬ (64 : ℕ) < 64 by decide)).trans (if_pos rfl)
theorem partG_L (n : Fin 16) (j : Fin 8) : partG c q k v b l x (ix4 0 n j 65) = colL c q k b l x j (ix4 0 n 0 0) :=
  (dif_neg (show ¬ (65 : ℕ) < 64 by decide)).trans (if_neg (show ¬ (65 : ℕ) = 64 by decide))

theorem emb_A (s : Fin 2) (j : Fin 8) (n : Fin 16) (d : Fin 64) : (rA s j).emb (ix4 0 n 0 d) = ix4 s n j ⟨d.val, by omega⟩ :=
  funext fun a => Fin.ext ((unit_val (s := S2x16x8x66) _ _ _ _ a).trans (by fin_cases a <;> simp))
theorem emb_M (s : Fin 2) (j : Fin 8) (n : Fin 16) : (rM s j).emb (ix4 0 n 0 0) = ix4 s n j 64 :=
  funext fun a => Fin.ext ((unit_val (s := S2x16x8x66) _ _ _ _ a).trans (by fin_cases a <;> simp <;> rfl))
theorem emb_L (s : Fin 2) (j : Fin 8) (n : Fin 16) : (rL s j).emb (ix4 0 n 0 0) = ix4 s n j 65 :=
  funext fun a => Fin.ext ((unit_val (s := S2x16x8x66) _ _ _ _ a).trans (by fin_cases a <;> simp <;> rfl))

theorem piece_A (i : Fin 8) (y : S1x16x1x64.Idx) : colA c q k v b l x i y = partG c q k v b l x ((rA 0 i).emb y) := by
  obtain ⟨a, e, f, g, rfl⟩ : ∃ (a : Fin 1) (e : Fin 16) (f : Fin 1) (g : Fin 64), y = ix4 a e f g := ⟨y 0, y 1, y 2, y 3, eq_ix4 y⟩
  obtain rfl := Subsingleton.elim a 0; obtain rfl := Subsingleton.elim f 0
  exact ((congrArg (partG c q k v b l x) (emb_A 0 i e g)).trans (partG_A c q k v b l x e i g)).symm

theorem piece_M (i : Fin 8) (y : S1x16x1x1.Idx) : colM c q k b l x i y = partG c q k v b l x ((rM 0 i).emb y) := by
  obtain ⟨a, e, f, g, rfl⟩ : ∃ (a : Fin 1) (e : Fin 16) (f g : Fin 1), y = ix4 a e f g := ⟨y 0, y 1, y 2, y 3, eq_ix4 y⟩
  obtain rfl := Subsingleton.elim a 0; obtain rfl := Subsingleton.elim f 0; obtain rfl := Subsingleton.elim g 0
  rw [emb_M, partG_M]

theorem piece_L (i : Fin 8) (y : S1x16x1x1.Idx) : colL c q k b l x i y = partG c q k v b l x ((rL 0 i).emb y) := by
  obtain ⟨a, e, f, g, rfl⟩ : ∃ (a : Fin 1) (e : Fin 16) (f g : Fin 1), y = ix4 a e f g := ⟨y 0, y 1, y 2, y 3, eq_ix4 y⟩
  obtain rfl := Subsingleton.elim a 0; obtain rfl := Subsingleton.elim f 0; obtain rfl := Subsingleton.elim g 0
  rw [emb_L, partG_L]

omit [FloatOps F] in
theorem agree {s : Shape} (r : Rect s) (w : r.shape.Idx → Elt F .f32) (G : s.Idx → Elt F .f32) (h : ∀ y, w y = G (r.emb y)) :
    ∀ y, (⟨r, w⟩ : View.Piece (Elt F) s .f32).2 y = G ((⟨r, w⟩ : View.Piece (Elt F) s .f32).1.emb y) := h

theorem partials_at (n : Fin 16) (j : Fin 8) (d : Fin 66) : partials c q k v b l x (ix4 0 n j d) = partG c q k v b l x (ix4 0 n j d) := by
  refine View.read_writes_apply_of_pieces cM.view cM.view.junk (partG c q k v b l x) (cPieces c q k v b l x) ?_ (ix4 0 n j d) ?_
  · intro p hp
    obtain ⟨i, _, hi⟩ := List.mem_flatMap.1 hp
    rcases List.mem_cons.1 hi with hi | hi
    · rw [hi]; exact agree _ _ _ (piece_L c q k v b l x i)
    rcases List.mem_cons.1 hi with hi | hi
    · rw [hi]; exact agree _ _ _ (piece_M c q k v b l x i)
    · rw [List.mem_singleton.1 hi]; exact agree _ _ _ (piece_A c q k v b l x i)
  · have hj : j ∈ ([7, 6, 5, 4, 3, 2, 1, 0] : List (Fin 8)) := by revert j; decide
    have hm (p : View.Piece (Elt F) S2x16x8x66 .f32)
        (h : p ∈ ([⟨rL 0 j, colL c q k b l x j⟩, ⟨rM 0 j, colM c q k b l x j⟩, ⟨rA 0 j, colA c q k v b l x j⟩] : List (View.Piece (Elt F) S2x16x8x66 .f32))) :
        p ∈ cPieces c q k v b l x := List.mem_flatMap.2 ⟨j, hj, h⟩
    by_cases h64 : d.val < 64
    · refine ⟨_, hm _ (List.mem_cons_of_mem _ (List.mem_cons_of_mem _ (List.mem_singleton.2 rfl))), ?_⟩
      have h := (rA 0 j).toLoadRect.idx_mem (ix4 0 n 0 ⟨d.val, h64⟩)
      rwa [show (rA 0 j).toLoadRect.idx (ix4 0 n 0 ⟨d.val, h64⟩) = ix4 0 n j d from emb_A 0 j n ⟨d.val, h64⟩] at h
    · by_cases h65 : d.val = 64
      · obtain rfl : d = 64 := Fin.ext h65
        refine ⟨_, hm _ (List.mem_cons_of_mem _ List.mem_cons_self), ?_⟩
        have h := (rM 0 j).toLoadRect.idx_mem (ix4 0 n 0 0)
        rwa [show (rM 0 j).toLoadRect.idx (ix4 0 n 0 0) = ix4 0 n j 64 from emb_M 0 j n] at h
      · obtain rfl : d = 65 := Fin.ext (show d.val = 65 by omega)
        refine ⟨_, hm _ List.mem_cons_self, ?_⟩
        have h := (rL 0 j).toLoadRect.idx_mem (ix4 0 n 0 0)
        rwa [show (rL 0 j).toLoadRect.idx (ix4 0 n 0 0) = ix4 0 n j 65 from emb_L 0 j n] at h
end Partials

theorem readA_at (g : CBuf F) (s : Fin 2) (j : Fin 8) (n : Fin 16) (d : Fin 64) :
    cM.view.readAt (Elt F) (rA s j).toLoadRect g (ix4 0 n 0 d) = g (ix4 s n j ⟨d.val, by omega⟩) := congrArg g (emb_A s j n d)
theorem readM_at (g : CBuf F) (s : Fin 2) (j : Fin 8) (n : Fin 16) :
    cM.view.readAt (Elt F) (rM s j).toLoadRect g (ix4 0 n 0 0) = g (ix4 s n j 64) := congrArg g (emb_M s j n)
theorem readL_at (g : CBuf F) (s : Fin 2) (j : Fin 8) (n : Fin 16) :
    cM.view.readAt (Elt F) (rL s j).toLoadRect g (ix4 0 n 0 0) = g (ix4 s n j 65) := congrArg g (emb_L s j n)

/-! ## A half that has landed -/

theorem casts_chalf : S1x16x8x66.ShapeCasts S16x8x66 := by decide
theorem casts_fhalf : S1x16x8x64.ShapeCasts S16x8x64 := by decide
theorem cast_chalf (w : S1x16x8x66.Idx → Elt F .f32) (n : Fin 16) (j : Fin 8) (d : Fin 66) :
    shapeCast S16x8x66 w casts_chalf (ix3 n j d) = w (ix4 0 n j d) := by pointwise
theorem cast_fhalf (w : S1x16x8x64.Idx → Elt F .f32) (n : Fin 16) (j : Fin 8) (d : Fin 64) :
    shapeCast S16x8x64 w casts_fhalf (ix3 n j d) = w (ix4 0 n j d) := by pointwise

theorem cH0_at (g : CBuf F) (n : Fin 16) (j : Fin 8) (d : Fin 66) : cH0.view.read (Elt F) g (ix3 n j d) = g (ix4 0 n j d) := by
  refine (congrFun (Memref.read_squeeze_slice (Val := Elt F) cM cR0 (fun _ => rfl) squeezes_S1x16x8x66_S16x8x66 casts_chalf g) (ix3 n j d)).trans
    ((cast_chalf _ n j d).trans ?_)
  exact congrArg g (funext fun a => Fin.ext ((unit_val (s := S2x16x8x66) _ _ _ _ a).trans (by fin_cases a <;> simp)))

theorem cH1_at (g : CBuf F) (n : Fin 16) (j : Fin 8) (d : Fin 66) : cH1.view.read (Elt F) g (ix3 n j d) = g (ix4 1 n j d) := by
  refine (congrFun (Memref.read_squeeze_slice (Val := Elt F) cM cR1 (fun _ => rfl) squeezes_S1x16x8x66_S16x8x66 casts_chalf g) (ix3 n j d)).trans
    ((cast_chalf _ n j d).trans ?_)
  exact congrArg g (funext fun a => Fin.ext ((unit_val (s := S2x16x8x66) _ _ _ _ a).trans (by fin_cases a <;> simp)))
theorem fH0_at (g : FBuf F) (n : Fin 16) (j : Fin 8) (d : Fin 64) : fH0.view.read (Elt F) g (ix3 n j d) = g (ix4 0 n j d) := by
  refine (congrFun (Memref.read_squeeze_slice (Val := Elt F) fM fR0 (fun _ => rfl) squeezes_S1x16x8x64_S16x8x64 casts_fhalf g) (ix3 n j d)).trans
    ((cast_fhalf _ n j d).trans ?_)
  exact congrArg g (funext fun a => Fin.ext ((unit_val (s := S2x16x8x64) _ _ _ _ a).trans (by fin_cases a <;> simp)))
theorem fH1_at (g : FBuf F) (n : Fin 16) (j : Fin 8) (d : Fin 64) : fH1.view.read (Elt F) g (ix3 n j d) = g (ix4 1 n j d) := by
  refine (congrFun (Memref.read_squeeze_slice (Val := Elt F) fM fR1 (fun _ => rfl) squeezes_S1x16x8x64_S16x8x64 casts_fhalf g) (ix3 n j d)).trans
    ((cast_fhalf _ n j d).trans ?_)
  exact congrArg g (funext fun a => Fin.ext ((unit_val (s := S2x16x8x64) _ _ _ _ a).trans (by fin_cases a <;> simp)))

theorem landC_at (g : CBuf F) (n : Fin 16) (j : Fin 8) (d : Fin 66) : landC g (ix4 1 n j d) = g (ix4 0 n j d) :=
  (cH1_at (landC g) n j d).symm.trans ((congrFun (View.read_write_univ (v := cH1.view) g (cH0.view.read (Elt F) g)) (ix3 n j d)).trans (cH0_at g n j d))
theorem landF_at (g : FBuf F) (n : Fin 16) (j : Fin 8) (d : Fin 64) : landF g (ix4 1 n j d) = g (ix4 0 n j d) :=
  (fH1_at (landF g) n j d).symm.trans ((congrFun (View.read_write_univ (v := fH1.view) g (fH0.view.read (Elt F) g)) (ix3 n j d)).trans (fH0_at g n j d))

/-! ## The finished heads and the result -/

theorem emb_F (j : Fin 8) (n : Fin 16) (d : Fin 64) : (rF j).emb (ix4 0 n 0 d) = ix4 0 n j d :=
  funext fun a => Fin.ext ((unit_val (s := S2x16x8x64) _ _ _ _ a).trans (by fin_cases a <;> simp))

theorem finished_at (g₀ g₁ : CBuf F) (n : Fin 16) (j : Fin 8) (d : Fin 64) : finished g₀ g₁ (ix4 0 n j d) = finAt g₀ g₁ j (ix4 0 n 0 d) := by
  refine View.read_writes_apply_of_pieces fM.view fM.view.junk (fun y : S2x16x8x64.Idx => finAt g₀ g₁ (y 2) (ix4 0 (y 1) 0 (y 3))) (fPieces g₀ g₁)
    ?_ (ix4 0 n j d) ?_
  · intro p hp
    obtain ⟨i, _, rfl⟩ := List.mem_map.1 hp
    intro (y : S1x16x1x64.Idx)
    obtain ⟨a, e, f, g, rfl⟩ : ∃ (a : Fin 1) (e : Fin 16) (f : Fin 1) (g : Fin 64), y = ix4 a e f g := ⟨y 0, y 1, y 2, y 3, eq_ix4 y⟩
    obtain rfl := Subsingleton.elim a 0; obtain rfl := Subsingleton.elim f 0
    exact (congrArg (fun y : S2x16x8x64.Idx => finAt g₀ g₁ (y 2) (ix4 0 (y 1) 0 (y 3))) (emb_F i e g)).symm
  · refine ⟨_, List.mem_map.2 ⟨j, by revert j; decide, rfl⟩, ?_⟩
    have h := (rF j).toLoadRect.idx_mem (ix4 0 n 0 d)
    rwa [show (rF j).toLoadRect.idx (ix4 0 n 0 d) = ix4 0 n j d from emb_F j n d] at h

theorem emb_O (x : Fin 2) (j : Fin 8) (n : Fin 16) (d : Fin 64) : (rO x).emb (ix4 n 0 j d) = ix4 n 0 (headF x j) d :=
  funext fun a => Fin.ext ((unit_val (s := S16x1x16x64) _ _ _ _ a).trans (by fin_cases a <;> simp))

theorem readF0_at (f : FBuf F) (n : Fin 16) (j : Fin 8) (d : Fin 64) :
    k0_pay137 (fM.view.readAt (Elt F) fR0.toLoadRect f) (ix4 n 0 j d) = f (ix4 0 n j d) := by
  pointwise [k0_pay137]
  exact congrArg f (funext fun a => Fin.ext ((unit_val (s := S2x16x8x64) _ _ _ _ a).trans (by fin_cases a <;> simp)))
theorem readF1_at (f : FBuf F) (n : Fin 16) (j : Fin 8) (d : Fin 64) :
    k0_pay138 (fM.view.readAt (Elt F) fR1.toLoadRect f) (ix4 n 0 j d) = f (ix4 1 n j d) := by
  pointwise [k0_pay138]
  exact congrArg f (funext fun a => Fin.ext ((unit_val (s := S2x16x8x64) _ _ _ _ a).trans (by fin_cases a <;> simp)))

section Halves
variable {κ : Kind} {sp : Space} (v : View sig κ sp S16x1x16x64 .f32) (f : v.ty.Contents (Elt F)) (w₁ w₀ : S16x1x8x64.Idx → Elt F .f32)

theorem halves_own (x : Fin 2) (n : Fin 16) (j : Fin 8) (d : Fin 64) :
    v.read (Elt F) (v.writes (Elt F) f [⟨rO (1 - x), w₁⟩, ⟨rO x, w₀⟩]) (ix4 n 0 (headF x j) d) = w₀ (ix4 n 0 j d) := by
  refine (View.read_writes_cons_miss (Val := Elt F) v f ⟨rO (1 - x), w₁⟩ [⟨rO x, w₀⟩] (ix4 n 0 (headF x j) d)
    ((rO (1 - x)).not_mem_set_of_axis _ 2 (8 * (1 - x).val) 8 rfl rfl rfl ?_)).trans
    (View.read_writes_cons_hit (Val := Elt F) v f (rO x) w₀ [] (ix4 n 0 j d) _ (emb_O x j n d))
  show 8 * x.val + j.val < _ ∨ _ ≤ 8 * x.val + j.val
  have hj := j.isLt
  match x with
  | 0 => exact .inl (show 8 * 0 + j.val < 8 * 1 by omega)
  | 1 => exact .inr (show 8 * 0 + 8 ≤ 8 * 1 + j.val by omega)

theorem halves_other (x : Fin 2) (n : Fin 16) (j : Fin 8) (d : Fin 64) :
    v.read (Elt F) (v.writes (Elt F) f [⟨rO (1 - x), w₁⟩, ⟨rO x, w₀⟩]) (ix4 n 0 (headF (1 - x) j) d) = w₁ (ix4 n 0 j d) :=
  View.read_writes_cons_hit (Val := Elt F) v f (rO (1 - x)) w₁ [⟨rO x, w₀⟩] (ix4 n 0 j d) _ (emb_O (1 - x) j n d)
end Halves

theorem outOf_read (f₀ f₁ : FBuf F) (x : Fin 2) : outOf f₀ f₁ x = oM.view.read (Elt F) (oM.view.writes (Elt F) oM.view.junk
    [⟨rO (1 - x), k0_pay138 (fM.view.readAt (Elt F) fR1.toLoadRect f₁)⟩, ⟨rO x, k0_pay137 (fM.view.readAt (Elt F) fR0.toLoadRect f₀)⟩]) := by
  have h : ∀ g : OBuf F, oM.view.read (Elt F) g = g := fun g => rfl
  unfold outOf outPieces
  exact (h _).symm

/-- The heads of the device's own half. -/
theorem outOf_own (f₀ f₁ : FBuf F) (x : Fin 2) (n : Fin 16) (j : Fin 8) (d : Fin 64) :
    outOf f₀ f₁ x (ix4 n 0 (headF x j) d) = f₀ (ix4 0 n j d) :=
  (congrFun (outOf_read f₀ f₁ x) _).trans <| (halves_own oM.view oM.view.junk (k0_pay138 (fM.view.readAt (Elt F) fR1.toLoadRect f₁)) (k0_pay137 (fM.view.readAt (Elt F) fR0.toLoadRect f₀)) x n j d).trans
    (readF0_at f₀ n j d)
/-- The heads of the other half. -/
theorem outOf_other (f₀ f₁ : FBuf F) (x : Fin 2) (n : Fin 16) (j : Fin 8) (d : Fin 64) :
    outOf f₀ f₁ x (ix4 n 0 (headF (1 - x) j) d) = f₁ (ix4 1 n j d) :=
  (congrFun (outOf_read f₀ f₁ x) _).trans <| (halves_other oM.view oM.view.junk (k0_pay138 (fM.view.readAt (Elt F) fR1.toLoadRect f₁)) (k0_pay137 (fM.view.readAt (Elt F) fR0.toLoadRect f₀)) x n j d).trans
    (readF1_at f₁ n j d)

end Cert.Paged
-- ==== Proof.Values.lean ====
/-
# The kernel's values over the extended reals

What one head's weights, sums and greatest score, and the brought-together halves, are at an index.
-/
module
public import proofs.«01_k».proof.Proof.Elements
public import proofs.«01_k».proof.Proof.Precondition
public import Idealize.ShloMosaic.Lib.WordCmp
@[expose] public section
noncomputable section
namespace Cert.Paged
open Idealize.ShloMosaic Idealize.SL.Sem Cert.KernelIdeal Cert.KernelIdeal.Gen
set_option maxRecDepth 16384

/-- The scale of the scores, and what the score of a key that no block names is. -/
def scale : ℝ := 1 / 8
theorem scale_eq : Ideal.ofBits .f32 0x3E000000#32 = ((scale : ℝ) : EReal) := by
  simp [Ideal.ofBits, Ideal.ieee, -EReal.coe_mul, scale]; norm_num
theorem unnamed_real : ∃ r : ℝ, Ideal.ofBits .f32 0xF149F2CA#32 = (r : EReal) := by
  simp only [Ideal.ofBits, Ideal.ieee]
  simp [-EReal.coe_mul, -EReal.coe_neg]
theorem bot_eq : Ideal.ofBits .f32 0xFF800000#32 = ⊥ := by simp [Ideal.ofBits, Ideal.ieee, -EReal.coe_mul]

theorem pay3_at (d : IVec S16x2048 1) (q : Vec Ideal S16x1x1x64 .f32) (k : Vec Ideal S1x128x16x64 .f32) (n : Fin 16) (κ : Fin 2048) :
    k0_pay3 d q k (ix2 n κ) = Scalar.select (d (ix2 n κ)) (Ideal.ofBits .f32 0xF149F2CA#32)
      ((∑ x, q (ix4 n 0 0 x) * k (ix4 0 (pageOf κ) (placeOf κ) x)) * Ideal.ofBits .f32 0x3E000000#32) := by
  pointwise [k0_pay3]
theorem pay4_at (d : IVec S16x2048 1) (q : Vec Ideal S16x1x1x64 .f32) (k : Vec Ideal S1x128x16x64 .f32) (n : Fin 16) (z : Fin 1) :
    k0_pay4 d q k (ix2 n z) = Finset.univ.fold max (Ideal.ofBits .f32 0xFF800000#32) fun κ => k0_pay3 d q k (ix2 n κ) := by
  pointwise [k0_pay4]
theorem pay5_at (c : FVec Ideal S16x2048 .f32) (d : IVec S16x2048 1) (q : Vec Ideal S16x1x1x64 .f32) (k : Vec Ideal S1x128x16x64 .f32) (n : Fin 16) (κ : Fin 2048) :
    k0_pay5 c d q k (ix2 n κ) = Ideal.exp (k0_pay3 d q k (ix2 n κ) - k0_pay4 d q k (ix2 n 0)) * c (ix2 n κ) := by
  pointwise [k0_pay5]
theorem pay6_at (c : FVec Ideal S16x2048 .f32) (d : IVec S16x2048 1) (q : Vec Ideal S16x1x1x64 .f32) (k : Vec Ideal S1x128x16x64 .f32) (n : Fin 16) (z : Fin 1) :
    k0_pay6 c d q k (ix2 n z) = ∑ κ, k0_pay5 c d q k (ix2 n κ) := by
  pointwise [k0_pay6]
theorem pay7_at (w : FVec Ideal S16x2048 .f32) (v : Vec Ideal S1x128x16x64 .f32) (n : Fin 16) (d : Fin 64) :
    k0_pay7 w v (ix4 0 n 0 d) = ∑ κ, w (ix2 n κ) * v (ix4 0 (pageOf κ) (placeOf κ) d) := by
  pointwise [k0_pay7]
theorem pay8_at (w : FVec Ideal S16x1 .f32) (n : Fin 16) : k0_pay8 w (ix4 0 n 0 0) = w (ix2 n 0) := by
  pointwise [k0_pay8]
theorem pay9_at (w : FVec Ideal S16x1 .f32) (n : Fin 16) : k0_pay9 w (ix4 0 n 0 0) = w (ix2 n 0) := by
  pointwise [k0_pay9]
/-- Two halves' sums, peaks and totals brought together. -/
def merged (A₀ m₀ l₀ A₁ m₁ l₁ : EReal) : EReal :=
  Ideal.div (A₀ * Ideal.exp (m₀ - max m₀ m₁) + A₁ * Ideal.exp (m₁ - max m₀ m₁)) (l₀ * Ideal.exp (m₀ - max m₀ m₁) + l₁ * Ideal.exp (m₁ - max m₀ m₁))
theorem pay127_at (a1 : Vec Ideal S1x16x1x64 .f32) (a2 a3 : Vec Ideal S1x16x1x1 .f32) (b1 : Vec Ideal S1x16x1x64 .f32) (b2 b3 : Vec Ideal S1x16x1x1 .f32)
    (n : Fin 16) (d : Fin 64) :
    k0_pay128 (k0_pay127 a1 a2 a3 b1 b2 b3) (ix4 0 n 0 d)
      = merged (a1 (ix4 0 n 0 d)) (a2 (ix4 0 n 0 0)) (a3 (ix4 0 n 0 0)) (b1 (ix4 0 n 0 d)) (b2 (ix4 0 n 0 0)) (b3 (ix4 0 n 0 0)) := by
  unfold merged
  pointwise [k0_pay128, k0_pay127]
theorem pay123_at (l : Vec Ideal S16x1 .i32) (n : Fin 16) (t : Fin 128) : k0_pay123 (F := Ideal) l (ix2 n t) = IntOp.cmpi .slt (BitVec.ofNat 32 t.val) (l (ix2 n 0)) := by
  pointwise [k0_pay123]
theorem pay124_at (b : Vec Ideal S16x128 .i32) (n : Fin 16) (t : Fin 128) : k0_pay124 (F := Ideal) b (ix2 n t) = b (ix2 n t) := by
  pointwise [k0_pay124]
theorem pay126_at (y : BitVec 32) (a : IVec S16x128 1) (b : IVec S16x128 32) (n : Fin 16) (κ : Fin 2048) :
    k0_pay126 (F := Ideal) y a b (ix2 n κ) = Ideal.cmp .oeq (k0_pay125 (F := Ideal) y a b (ix2 n κ)) 0 := by
  pointwise [k0_pay126]

/-! ## How often a page is named -/

/-- Block `t` of row `n` is within the row's length. -/
def liveIn (l : LBuf Ideal) (n : Fin 16) (t : Fin 128) : Prop := (t.val : ℤ) < (l (ix2 n 0)).toInt
instance (l : LBuf Ideal) (n : Fin 16) : DecidablePred (liveIn l n) := fun _ => inferInstanceAs (Decidable (_ < _))

/-- A truth value as a number. -/
theorem bit_real (P : Prop) [Decidable P] :
    FloatOps.sitofp (F := Ideal) .f32 (BitVec.setWidth 32 (BitVec.ofBool (decide P))) = if P then 1 else 0 := by
  show (((BitVec.setWidth 32 (BitVec.ofBool (decide P))).toInt : ℝ) : EReal) = _
  by_cases h : P <;> simp [h]

theorem page_word (y : Fin 2) (p : Fin 128) : IntOp.addi (BitVec.ofNat 32 p.val) (Scalar.muli (BitVec.ofNat 32 y.val) 128#32) = BitVec.ofNat 32 (pageIn y p).val := by
  revert y p; decide +kernel
theorem page_inj (P P' : Fin 256) : BitVec.ofNat 32 P.val = BitVec.ofNat 32 P'.val ↔ P' = P := by
  rw [← BitVec.toNat_inj, BitVec.toNat_ofNat, BitVec.toNat_ofNat, Nat.mod_eq_of_lt (by omega), Nat.mod_eq_of_lt (by omega), Fin.ext_iff]
  exact eq_comm
theorem page_ne (P : Fin 256) : BitVec.ofNat 32 P.val ≠ 4294967295#32 := by revert P; decide +kernel

/-- Whether a block names a page. -/
theorem named_at (l : LBuf Ideal) (b : BBuf Ideal) (n : Fin 16) (page : Fin 128 → Fin 256)
    (hb : ∀ t, liveIn l n t → b (ix2 n t) = BitVec.ofNat 32 (page t).val) (P : Fin 256) (t : Fin 128) :
    FloatOps.sitofp (F := Ideal) .f32 (BitVec.setWidth 32 (IntOp.cmpi .eq (BitVec.ofNat 32 P.val)
      (Scalar.select (IntOp.cmpi .slt (BitVec.ofNat 32 t.val) (l (ix2 n 0))) (b (ix2 n t)) 4294967295#32))) = if liveIn l n t ∧ page t = P then 1 else 0 := by
  rw [WordCmp.cmpi_eq_eq, bit_real, WordCmp.cmpi_slt_eq, block_int]
  refine if_congr ?_ rfl rfl
  by_cases h : liveIn l n t
  · have h' : (t.val : ℤ) < (l (ix2 n 0)).toInt := h
    rw [decide_eq_true h', show Scalar.select (BitVec.ofBool true) (b (ix2 n t)) 4294967295#32 = b (ix2 n t) from rfl, hb t h, page_inj, and_iff_right h]
  · have h' : ¬ (t.val : ℤ) < (l (ix2 n 0)).toInt := h
    rw [decide_eq_false h', show Scalar.select (BitVec.ofBool false) (b (ix2 n t)) 4294967295#32 = 4294967295#32 from rfl]
    exact ⟨fun e => absurd e (page_ne P), fun e => absurd e.1 h⟩

/-- Whether a key is of a page. -/
theorem key_word (κ : Fin 2048) :
    Scalar.select (IntOp.andi
      (IntOp.cmpi CmpIPredicate.ne
        (IntOp.subi (BitVec.setWidth 32 (IntOp.cmpi CmpIPredicate.sgt (BitVec.ofNat 32 ↑κ) 0#32))
          (BitVec.setWidth 32 (IntOp.cmpi CmpIPredicate.slt (BitVec.ofNat 32 ↑κ) 0#32)))
        (Scalar.subi (Scalar.extui (Scalar.cmpi CmpIPredicate.sgt 16#32 0#32)) (Scalar.extui (Scalar.cmpi CmpIPredicate.slt 16#32 0#32))))
      (IntOp.cmpi CmpIPredicate.ne (IntOp.remsi ArithUnit.vector (BitVec.ofNat 32 ↑κ) 16#32) 0#32))
    (IntOp.subi (IntOp.divsi ArithUnit.vector (BitVec.ofNat 32 ↑κ) 16#32) 1#32) (IntOp.divsi ArithUnit.vector (BitVec.ofNat 32 ↑κ) 16#32)
      = BitVec.ofNat 32 (pageOf κ).val := by
  revert κ; decide +kernel

theorem pay125_at (y : Fin 2) (l : LBuf Ideal) (b : BBuf Ideal) (n : Fin 16) (page : Fin 128 → Fin 256)
    (hb : ∀ t, liveIn l n t → b (ix2 n t) = BitVec.ofNat 32 (page t).val) (κ : Fin 2048) :
    k0_pay125 (F := Ideal) (BitVec.ofNat 32 y.val) (k0_pay123 (lAt l)) (k0_pay124 (bAt b)) (ix2 n κ)
      = ((count (liveIn l n) page (pageIn y (pageOf κ)) : ℝ) : EReal) := by
  pointwise [k0_pay125]
  simp only [key_word, page_word, pay123_at, pay124_at, lAt_at, bAt_at]
  rw [Finset.sum_eq_single (pageOf κ)]
  · rw [WordCmp.cmpi_eq_eq, bit_real, if_pos rfl, mul_one]
    refine (Finset.sum_congr rfl fun t _ => named_at l b n page hb (pageIn y (pageOf κ)) t).trans ?_
    rw [Finset.sum_boole]
    rfl
  · intro p _ hp
    rw [WordCmp.cmpi_eq_eq, bit_real, if_neg, mul_zero]
    intro e
    have := Fin.ext_iff.1 ((page_inj (pageIn 0 p) (pageIn 0 (pageOf κ))).1 e)
    exact hp (Fin.ext this.symm)
  · exact fun h => absurd (Finset.mem_univ _) h

theorem yWord_eq (c : Dev nD) : yWord c = BitVec.ofNat 32 (yOf c).val := by revert c; decide +kernel

/-! ## One head of one row -/

def unnamed : ℝ := (Ideal.ofBits .f32 0xF149F2CA#32).toReal
theorem unnamed_eq : Ideal.ofBits .f32 0xF149F2CA#32 = ((unnamed : ℝ) : EReal) := by
  obtain ⟨r, hr⟩ := unnamed_real
  rw [unnamed, hr]; rfl

abbrev qE (q : QBuf Ideal) : S16x1x16x64.Idx → EReal := q
abbrev kE (k : KBuf Ideal) : S128x16x16x64.Idx → EReal := k

/-- What a device holds of row `n`, head `j` of half `x` and feature `d`: the pages that live blocks name, the scores and values
    of its half of the pages. -/
structure Holds (c : Dev nD) (q : QBuf Ideal) (k : KBuf Ideal) (v : VBuf Ideal) (b : BBuf Ideal) (l : LBuf Ideal) (x : Fin 2) (n : Fin 16) (j : Fin 8)
    (page : Fin 128 → Fin 256) (a : Fin 256 → Fin 16 → ℝ) (d : Fin 64) (V : Fin 256 → Fin 16 → EReal) : Prop where
  names : ∀ t, liveIn l n t → b (ix2 n t) = BitVec.ofNat 32 (page t).val
  scores : ∀ p o, (∑ e, qE q (ix4 n 0 (headF x j) e) * kE k (ix4 p o (headF x j) e)) * ((scale : ℝ) : EReal) = ((a (pageIn (yOf c) p) o : ℝ) : EReal)
  values : ∀ p o, v (ix4 p o (headF x j) d) = V (pageIn (yOf c) p) o

section Head
variable {c : Dev nD} {q : QBuf Ideal} {k : KBuf Ideal} {v : VBuf Ideal} {b : BBuf Ideal} {l : LBuf Ideal} {x : Fin 2} {n : Fin 16} {j : Fin 8}
  {page : Fin 128 → Fin 256} {a : Fin 256 → Fin 16 → ℝ} {d : Fin 64} {V : Fin 256 → Fin 16 → EReal} (H : Holds c q k v b l x n j page a d V)
include H

theorem cnt_at (κ : Fin 2048) : cnt c b l (ix2 n κ) = ((count (liveIn l n) page (pageIn (yOf c) (pageOf κ)) : ℝ) : EReal) := by
  unfold cnt
  rw [yWord_eq]
  exact pay125_at _ l b n page H.names κ

theorem score_at (κ : Fin 2048) : k0_pay3 (dead (F := Ideal) c b l) (qAt q x j) (kAt k x j) (ix2 n κ) = kscore a (count (liveIn l n) page) unnamed (yOf c) κ := by
  have hc := cnt_at H κ
  rw [pay3_at, unnamed_eq, scale_eq]
  simp only [qAt_at, kAt_at]
  rw [H.scores, dead, pay126_at]
  unfold cnt at hc
  rw [hc]
  unfold kscore Ideal.cmp
  by_cases h : count (liveIn l n) page (pageIn (yOf c) (pageOf κ)) = 0
  · rw [if_pos h, h]
    simp [Scalar.select]
  · rw [if_neg h]
    simp [Scalar.select, h]

/-- The greatest score of the half. -/
def peak (c : Dev nD) (l : LBuf Ideal) (n : Fin 16) (page : Fin 128 → Fin 256) (a : Fin 256 → Fin 16 → ℝ) : EReal :=
  Finset.univ.fold max ⊥ (kscore a (count (liveIn l n) page) unnamed (yOf c))

theorem max_at : k0_pay4 (dead (F := Ideal) c b l) (qAt q x j) (kAt k x j) (ix2 n 0) = peak c l n page a := by
  rw [pay4_at, bot_eq]
  exact congrArg (Finset.univ.fold max ⊥) (funext fun κ => score_at H κ)

theorem wAt_at (κ : Fin 2048) : wAt c q k b l x j (ix2 n κ) = kweight a (count (liveIn l n) page) unnamed (yOf c) (peak c l n page a) κ := by
  unfold wAt
  rw [pay5_at, score_at H, max_at H, cnt_at H]
  rfl

theorem colA_at : colA c q k v b l x j (ix4 0 n 0 d)
    = ∑ κ, kweight a (count (liveIn l n) page) unnamed (yOf c) (peak c l n page a) κ * V (pageIn (yOf c) (pageOf κ)) (placeOf κ) := by
  unfold colA
  rw [pay7_at]
  refine Finset.sum_congr rfl fun κ _ => ?_
  rw [wAt_at H, vAt_at, H.values]

theorem colM_at : colM c q k b l x j (ix4 0 n 0 0) = peak c l n page a := by
  unfold colM
  rw [pay8_at, max_at H]

theorem colL_at : colL c q k b l x j (ix4 0 n 0 0) = ∑ κ, kweight a (count (liveIn l n) page) unnamed (yOf c) (peak c l n page a) κ := by
  unfold colL
  rw [pay9_at, pay6_at]
  exact Finset.sum_congr rfl fun κ _ => wAt_at H κ

end Head

/-- Two devices of different halves of the pages: their partials, brought together, are what the row attends to. -/
theorem finished_attended {c₀ c₁ : Dev nD} (hc : yOf c₀ ≠ yOf c₁) {q₀ q₁ : QBuf Ideal} {k₀ k₁ : KBuf Ideal} {v₀ v₁ : VBuf Ideal} {b₀ b₁ : BBuf Ideal} {l : LBuf Ideal}
    {x : Fin 2} {n : Fin 16} {j : Fin 8} {page : Fin 128 → Fin 256} {a : Fin 256 → Fin 16 → ℝ} {d : Fin 64} {V : Fin 256 → Fin 16 → EReal}
    (H₀ : Holds c₀ q₀ k₀ v₀ b₀ l x n j page a d V) (H₁ : Holds c₁ q₁ k₁ v₁ b₁ l x n j page a d V) (hl : ∃ t, liveIn l n t) :
    finished (partials c₀ q₀ k₀ v₀ b₀ l x) (landC (partials c₁ q₁ k₁ v₁ b₁ l x)) (ix4 0 n j d) = attended (liveIn l n) page a V := by
  rw [finished_at, finAt, pay127_at, readA_at, readM_at, readL_at, readA_at, readM_at, readL_at, landC_at, landC_at, landC_at,
    partials_at, partials_at, partials_at, partials_at, partials_at, partials_at,
    partG_A, partG_M, partG_L, partG_A, partG_M, partG_L, colA_at H₀, colA_at H₁, colM_at H₀, colM_at H₁, colL_at H₀, colL_at H₁]
  have hk := kernel_attended (liveIn l n) page a (count (liveIn l n) page) unnamed rfl hl V
    (fun y => Finset.univ.fold max ⊥ (kscore a (count (liveIn l n) page) unnamed y)) fun _ => rfl
  unfold peak merged
  generalize yOf c₀ = y₀ at *
  generalize yOf c₁ = y₁ at *
  fin_cases y₀ <;> fin_cases y₁
  · exact absurd rfl hc
  · exact hk
  · refine Eq.trans ?_ hk
    rw [max_comm]
    exact congrArg₂ Ideal.div (add_comm _ _) (add_comm _ _)
  · exact absurd rfl hc

end Cert.Paged
-- ==== Proof.Reference.lean ====
/-
# The reference's result

The reference's result in layers, each read at an index over the extended reals: the pages a row's blocks name, the scores, and
their softmax against the values.
-/
module
public import proofs.«01_k».proof.Proof.Softmax
public import proofs.«01_k».proof.Proof.Gen.ReferenceIdeal.Run
public import Idealize.ShloMosaic.Lib.WordCmp
@[expose] public section
noncomputable section
namespace Cert.Paged.Ref
open Idealize.ShloMosaic Idealize.SL.Sem Cert.ReferenceIdeal Cert.ReferenceIdeal.Gen
set_option maxRecDepth 16384

section Layers
variable {F : FTy → Type} [FloatOps F]

/-- The page numbers, a negative one counted from the end; and the pages they name, as keys. -/
def starts (b : IVec S16x128 32) : IVec S16x128x1 32 :=
  broadcastInDim S16x128x1 ![0, 1] bcast_S16x128_S16x128x1_0_1 (select (cmpi .slt b (broadcastInDim S16x128 ![] bcast_S_S16x128 (constantI S_ 32 0#32)))
    (addi b (broadcastInDim S16x128 ![] bcast_S_S16x128 (constantI S_ 32 256#32))) b)
def gathered (x : FVec F S256x16x16x64 .f32) (b : IVec S16x128 32) : FVec F S16x128x16x16x64 .f32 :=
  Host.gather gather_S256x16x16x64_S16x128x1_S16x128x16x16x64_234_0_n_n_0_2_1161664 x (starts b)
def keys (g : FVec F S16x128x16x16x64 .f32) : FVec F S16x2048x16x64 .f32 := shapeCast _ g shapeCasts_S16x128x16x16x64_S16x2048x16x64
/-- Which keys are live. -/
def alive (l : IVec S16x1 32) : IVec S16x16x1x2048 1 :=
  broadcastInDim S16x16x1x2048 ![0, 1, 2, 3] bcast_S16x1x1x2048_S16x16x1x2048_0_1_2_3 (broadcastInDim S16x1x1x2048 ![0, 3] bcast_S16x2048_S16x1x1x2048_0_3
    (shapeCast _ (broadcastInDim S16x128x16 ![0, 1] bcast_S16x128_S16x128x16_0_1 (cmpi .slt (broadcastInDim S16x128 ![0, 1] bcast_S1x128_S16x128_0_1
      (broadcastInDim S1x128 ![1] bcast_S128_S1x128_1 (iotaInDim S128 32 0))) (broadcastInDim S16x128 ![0, 1] bcast_S16x1_S16x128_0_1 l))) shapeCasts_S16x128x16_S16x2048))
def scores (q : FVec F S16x1x16x64 .f32) (k : FVec F S16x2048x16x64 .f32) (l : IVec S16x1 32) : FVec F S16x16x1x2048 .f32 :=
  select (alive l) (mulf (Host.dotGeneral dot_S16x1x16x64_S16x2048x16x64_S16x16x1x2048_3_3_1_1_02_02 none q k)
    (broadcastInDim S16x16x1x2048 ![] bcast_S_S16x16x1x2048 (constant S_ .f32 0x3E000000#32)))
    (broadcastInDim S16x16x1x2048 ![] bcast_S_S16x16x1x2048 (id (constant S_ .f32 0xFF800000#32)))
/-- A row's number at each of its keys. -/
def spread (r : FVec F S16x16x1 .f32) : FVec F S16x16x1x2048 .f32 :=
  broadcastInDim S16x16x1x2048 ![0, 1, 2, 3] bcast_S16x16x1x1_S16x16x1x2048_0_1_2_3 (broadcastInDim S16x16x1x1 ![0, 1, 2] bcast_S16x16x1_S16x16x1x1_0_1_2 r)
def top (s : FVec F S16x16x1x2048 .f32) : FVec F S16x16x1 .f32 :=
  Host.reduce FloatOps.maximumf s (constant S_ .f32 0xFF800000#32) reducesTo_S16x16x1x2048_S16x16x1_d3 h_S_
def sums (e : FVec F S16x16x1x2048 .f32) : FVec F S16x16x1 .f32 :=
  Host.reduceAdd e (constant S_ .f32 0x00000000#32) reducesTo_S16x16x1x2048_S16x16x1_d3 h_S_
def exps (s : FVec F S16x16x1x2048 .f32) : FVec F S16x16x1x2048 .f32 := Host.exp (subf s (spread (top s)))
def probs (e : FVec F S16x16x1x2048 .f32) : FVec F S16x16x1x2048 .f32 := Host.divf e (spread (sums e))
def against (v : FVec F S16x2048x16x64 .f32) (p : FVec F S16x16x1x2048 .f32) : FVec F S16x1x16x64 .f32 :=
  transpose S16x1x16x64 [0, 3, 1, 2] (Host.dotGeneral dot_S16x2048x16x64_S16x16x1x2048_S16x16x64x1_1_3_3_2_02_01 none v p) transposes_S16x16x64x1_S16x1x16x64_0_3_1_2

def attend (q : FVec F S16x1x16x64 .f32) (k v : FVec F S256x16x16x64 .f32) (b : IVec S16x128 32) (l : IVec S16x1 32) : FVec F S16x1x16x64 .f32 :=
  against (keys (gathered v b)) (probs (exps (scores q (keys (gathered k b)) l)))

theorem res_eq (m : (ℓ : Loc nD τ sig) → Buf (Elt F) ℓ) (c : Dev nD) : Value.res_main_v38 m c
    = attend (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Layers

theorem starts_at (b : IVec S16x128 32) (n : Fin 16) (t : Fin 128) (z : Fin 1) :
    starts b (ix3 n t z) = Scalar.select (IntOp.cmpi .slt (b (ix2 n t)) 0#32) (IntOp.addi (b (ix2 n t)) 256#32) (b (ix2 n t)) := by
  pointwise [starts]
theorem keys_at (g : FVec Ideal S16x128x16x16x64 .f32) (n : Fin 16) (κ : Fin 2048) (h : Fin 16) (d : Fin 64) :
    keys g (ix4 n κ h d) = g (ix5 n (pageOf κ) (placeOf κ) h d) := by
  pointwise [keys]
theorem alive_at (l : IVec S16x1 32) (n h : Fin 16) (κ : Fin 2048) : alive l (ix4 n h 0 κ) = IntOp.cmpi .slt (BitVec.ofNat 32 (pageOf κ).val) (l (ix2 n 0)) := by
  pointwise [alive]
theorem scores_at (q : FVec Ideal S16x1x16x64 .f32) (k : FVec Ideal S16x2048x16x64 .f32) (l : IVec S16x1 32) (n h : Fin 16) (κ : Fin 2048) :
    scores q k l (ix4 n h 0 κ) = Scalar.select (alive l (ix4 n h 0 κ)) ((∑ e, q (ix4 n 0 h e) * k (ix4 n κ h e)) * Ideal.ofBits .f32 0x3E000000#32)
      (Ideal.ofBits .f32 0xFF800000#32) := by
  pointwise [scores]
  rfl
theorem top_at (s : FVec Ideal S16x16x1x2048 .f32) (n h : Fin 16) :
    top s (ix3 n h 0) = Finset.univ.fold max (Ideal.ofBits .f32 0xFF800000#32) fun κ => s (ix4 n h 0 κ) := by
  pointwise [top]
theorem exps_at (s : FVec Ideal S16x16x1x2048 .f32) (n h : Fin 16) (κ : Fin 2048) : exps s (ix4 n h 0 κ) = Ideal.exp (s (ix4 n h 0 κ) - top s (ix3 n h 0)) := by
  pointwise [exps, spread]
theorem probs_at (e : FVec Ideal S16x16x1x2048 .f32) (n h : Fin 16) (κ : Fin 2048) :
    probs e (ix4 n h 0 κ) = Ideal.div (e (ix4 n h 0 κ)) (∑ κ', e (ix4 n h 0 κ')) := by
  pointwise [probs, spread, sums]
theorem against_at (v : FVec Ideal S16x2048x16x64 .f32) (p : FVec Ideal S16x16x1x2048 .f32) (n h : Fin 16) (d : Fin 64) :
    against v p (ix4 n 0 h d) = ∑ κ, v (ix4 n κ h d) * p (ix4 n h 0 κ) := by
  pointwise [against]

theorem page_start (P : Fin 256) : Scalar.select (IntOp.cmpi .slt (BitVec.ofNat 32 P.val) 0#32) (IntOp.addi (BitVec.ofNat 32 P.val) 256#32)
    (BitVec.ofNat 32 P.val) = BitVec.ofNat 32 P.val := by
  revert P; decide +kernel
theorem page_clamp (P : Fin 256) : min (BitVec.ofNat 32 P.val).toInt.toNat 255 = P.val := by
  revert P; decide +kernel

/-- The gather's dimension numbers, and where on each axis of the pages it reads. -/
abbrev pick : GatherDims S256x16x16x64 S16x128x1 S16x128x16x16x64 := gather_S256x16x16x64_S16x128x1_S16x128x16x16x64_234_0_n_n_0_2_1161664

theorem pick_index (n : Fin 16) (t : Fin 128) (o h : Fin 16) (d : Fin 64) (z : Fin pick.startIndexMap.length) : pick.siIdx (ix5 n t o h d) z = ix3 n t 0 := by
  funext a
  refine Fin.ext ?_
  match a with
  | ⟨0, _⟩ => rfl
  | ⟨1, _⟩ => rfl
  | ⟨2, _⟩ => exact Nat.lt_one_iff.1 z.isLt

theorem pick_first (n : Fin 16) (t : Fin 128) (o h : Fin 16) (d : Fin 64) (s : IVec S16x128x1 32) :
    pick.start (ix5 n t o h d) s (0 : Fin 4) = min (s (ix3 n t 0)).toInt.toNat 255 := by
  have h0 : (0 : Fin 4) ∈ pick.startIndexMap := List.mem_singleton.mpr rfl
  unfold GatherDims.start
  rw [dif_pos h0, pick_index]
  rfl

theorem pick_rest (j : S16x128x16x16x64.Idx) (s : IVec S16x128x1 32) (a : Fin 4) (ha : a ≠ 0) : pick.start j s a = 0 :=
  dif_neg fun h => ha (List.mem_singleton.1 h)

theorem pick_kept (a : Fin 4) (ha : a ≠ 0) : a ∈ pick.sKept :=
  (pick.mem_sKept a).2 ⟨fun h => ha (List.mem_singleton.1 h), List.not_mem_nil⟩

theorem pick_off (j : S16x128x16x16x64.Idx) (a : Fin 4) (ha : a ≠ 0) :
    pick.offCoord j a = (j ((![1, 2, 3, 4] : Fin 4 → Fin 5) a)).val := by
  unfold GatherDims.offCoord
  rw [dif_pos (pick_kept a ha)]
  revert ha
  match a with
  | 0 => exact fun h => absurd rfl h
  | 1 => exact fun _ => rfl
  | 2 => exact fun _ => rfl
  | 3 => exact fun _ => rfl

/-- The page that a block names. -/
theorem gathered_at (x : FVec Ideal S256x16x16x64 .f32) (b : IVec S16x128 32) (n : Fin 16) (t : Fin 128) (o h : Fin 16) (d : Fin 64) (P : Fin 256)
    (hP : b (ix2 n t) = BitVec.ofNat 32 P.val) : gathered x b (ix5 n t o h d) = x (ix4 P o h d) := by
  have hs : starts b (ix3 n t 0) = BitVec.ofNat 32 P.val := by
    rw [starts_at, hP]
    exact page_start P
  have rest (a : Fin 4) (ha : a ≠ 0) : (pick.operandIdx (ix5 n t o h d) (starts b) a).val = (ix5 n t o h d ((![1, 2, 3, 4] : Fin 4 → Fin 5) a)).val := by
    show pick.start (ix5 n t o h d) (starts b) a + pick.batchCoord (ix5 n t o h d) a + pick.offCoord (ix5 n t o h d) a = _
    rw [pick_rest _ _ a ha, pick.batchCoord_eq_zero _ _ List.not_mem_nil, pick_off _ a ha, Nat.zero_add]
  unfold gathered Host.gather
  refine congrArg x (funext fun a => Fin.ext ?_)
  match a with
  | ⟨0, _⟩ =>
    show pick.start (ix5 n t o h d) (starts b) (0 : Fin 4) + pick.batchCoord (ix5 n t o h d) (0 : Fin 4) + pick.offCoord (ix5 n t o h d) (0 : Fin 4) = P.val
    rw [pick_first, pick.batchCoord_eq_zero _ _ List.not_mem_nil, hs, page_clamp,
      pick.offCoord_eq_zero _ _ fun h => ((pick.mem_sKept _).mp h).1 (List.mem_singleton.mpr rfl)]
    rfl
  | ⟨1, _⟩ => exact rest 1 (by decide)
  | ⟨2, _⟩ => exact rest 2 (by decide)
  | ⟨3, _⟩ => exact rest 3 (by decide)

theorem bot_eq : Ideal.ofBits .f32 0xFF800000#32 = ⊥ := by simp [Ideal.ofBits, Ideal.ieee, -EReal.coe_mul]

/-- The reference's result for one row, head and feature. -/
theorem attend_at (q : FVec Ideal S16x1x16x64 .f32) (k v : FVec Ideal S256x16x16x64 .f32) (b : IVec S16x128 32) (l : IVec S16x1 32) (n h : Fin 16) (d : Fin 64)
    (live : Fin 128 → Prop) [DecidablePred live] (hlive : ∀ t, live t ↔ (t.val : ℤ) < (l (ix2 n 0)).toInt) (hl : ∃ t, live t)
    (page : Fin 128 → Fin 256) (hb : ∀ t, live t → b (ix2 n t) = BitVec.ofNat 32 (page t).val) (a : Fin 256 → Fin 16 → ℝ)
    (ha : ∀ P o, (∑ e, q (ix4 n 0 h e) * k (ix4 P o h e)) * Ideal.ofBits .f32 0x3E000000#32 = ((a P o : ℝ) : EReal)) :
    attend q k v b l (ix4 n 0 h d) = attended live page a fun P o => v (ix4 P o h d) := by
  have key (x : FVec Ideal S256x16x16x64 .f32) (κ : Fin 2048) (e : Fin 64) (hκ : live (pageOf κ)) :
      keys (gathered x b) (ix4 n κ h e) = x (ix4 (page (pageOf κ)) (placeOf κ) h e) := by
    rw [keys_at, gathered_at x b n _ _ _ _ _ (hb _ hκ)]
  have hs (κ : Fin 2048) : scores q (keys (gathered k b)) l (ix4 n h 0 κ) = rscore live page a κ := by
    have ht : (BitVec.ofNat 32 (pageOf κ).val).toInt = (pageOf κ).val := by
      generalize pageOf κ = t
      revert t; decide +kernel
    rw [scores_at, alive_at, WordCmp.cmpi_slt_eq, ht, bot_eq]
    unfold rscore
    by_cases hκ : live (pageOf κ)
    · rw [if_pos hκ, decide_eq_true ((hlive _).1 hκ), ← ha]
      refine congrArg (· * _) (Finset.sum_congr rfl fun e _ => ?_)
      rw [key k κ e hκ]
    · rw [if_neg hκ, decide_eq_false fun h' => hκ ((hlive _).2 h')]
      rfl
  unfold attend
  rw [against_at]
  simp only [probs_at, exps_at, top_at, hs, bot_eq]
  exact reference_attended live page a hl (fun P o => v (ix4 P o h d)) _ (fun κ hκ => key v κ d hκ) _ rfl

end Cert.Paged.Ref
-- ==== Proof.Algebraic.lean ====
/-
# The kernel's result is the reference's

Over the extended reals every device ends with the result that the reference ends with, from the same queries, table and lengths and
from its half of the reference's pages, where the arguments are well formed.
-/
module
public import proofs.«01_k».proof.Proof.Frames
public import proofs.«01_k».proof.Proof.Values
public import proofs.«01_k».proof.Proof.Reference
@[expose] public section
noncomputable section
namespace Cert.Paged
open Idealize.ShloMosaic Idealize.SL.Sem Cert.KernelIdeal Cert.KernelIdeal.Gen
open Idealize.ShloMosaic.TcCoe
open Idealize.ShloMosaic.Pipeline (Window)
set_option maxRecDepth 16384

abbrev S256x16x16x64 : Shape := ⟨4, ![256, 16, 16, 64]⟩

section Reads
variable {F : FTy → Type} [FloatOps F] (m : (ℓ : Loc nD τ sig) → Buf (Elt F) ℓ)

theorem bOf_apply (c : Dev nD) (j : S16x128.Idx) : bOf m c j = m ((c : Thread nD τ).loc main_arg3) j := by
  unfold bOf
  rw [show (win0_1.blk (0 : Fin 1)).view.read (Elt F) (m ((c : Thread nD τ).loc main_arg3)) j
    = m ((c : Thread nD τ).loc main_arg3) ((win0_1.rect (0 : Fin 1)).emb j) from rfl]
  congr 1
  funext a; apply Fin.ext
  exact Window.rect_emb_val_of_index_zero win0_1 t₀ a rfl j
theorem lOf_apply (c : Dev nD) (j : S16x1.Idx) : lOf m c j = m ((c : Thread nD τ).loc main_arg4) j := by
  unfold lOf
  rw [show (win0_2.blk (0 : Fin 1)).view.read (Elt F) (m ((c : Thread nD τ).loc main_arg4)) j
    = m ((c : Thread nD τ).loc main_arg4) ((win0_2.rect (0 : Fin 1)).emb j) from rfl]
  congr 1
  funext a; apply Fin.ext
  exact Window.rect_emb_val_of_index_zero win0_2 t₀ a rfl j
end Reads

/-- A device's half of the pages. -/
theorem half_at (c : Dev nD) (w : S256x16x16x64.Idx → EReal) (p : Fin 128) (o h : Fin 16) (e : Fin 64) :
    Layout.blockN ⟨4, ![128, 16, 16, 64]⟩ ⟨4, ![256, 16, 16, 64]⟩ (Layout.meshBlock [2, 2] ![[1], [], [], []] c) w (by decide) (ix4 p o h e)
      = w (ix4 (pageIn (yOf c) p) o h e) := by
  have hc : Layout.meshLin [2, 2] c.val [1] = c.val % 2 := by revert c; decide
  rw [Layout.blockN_apply]
  refine congrArg w (funext fun a => Fin.ext ?_)
  rw [Layout.TilesN.idx_val]
  match a with
  | ⟨0, _⟩ =>
    show Layout.meshLin [2, 2] c.val [1] * 128 + p.val = p.val + 128 * (c.val % 2)
    rw [hc]; omega
  | ⟨1, _⟩ => show 0 * 16 + o.val = o.val; omega
  | ⟨2, _⟩ => show 0 * 16 + h.val = h.val; omega
  | ⟨3, _⟩ => show 0 * 64 + e.val = e.val; omega

/-- Every device's arguments are these, the keys and values its half of these. -/
structure Same (m : (ℓ : Loc nD τ sig) → Buf (Elt Ideal) ℓ) (q : S16x1x16x64.Idx → EReal) (k v : S256x16x16x64.Idx → EReal)
    (b : S16x128.Idx → BitVec 32) (l : S16x1.Idx → BitVec 32) : Prop where
  q (c : Dev nD) : qOf m c = q
  k (c : Dev nD) (p : Fin 128) (o h : Fin 16) (e : Fin 64) : kOf m c (ix4 p o h e) = k (ix4 (pageIn (yOf c) p) o h e)
  v (c : Dev nD) (p : Fin 128) (o h : Fin 16) (e : Fin 64) : vOf m c (ix4 p o h e) = v (ix4 (pageIn (yOf c) p) o h e)
  b (c : Dev nD) : bOf m c = b
  l (c : Dev nD) : lOf m c = l

/-- The arguments are well formed. -/
structure Good (q : S16x1x16x64.Idx → EReal) (k : S256x16x16x64.Idx → EReal) (b : S16x128.Idx → BitVec 32) (l : S16x1.Idx → BitVec 32) : Prop where
  some_live (n : Fin 16) : 1 ≤ (l (ix2 n 0)).toInt
  names (n : Fin 16) (t : Fin 128) (h : (t.val : ℤ) < (l (ix2 n 0)).toInt) : 0 ≤ (b (ix2 n t)).toInt ∧ (b (ix2 n t)).toInt < 256
  queries (i : S16x1x16x64.Idx) : ((EReal.toReal (q i) : ℝ) : EReal) = q i
  keys (P : Fin 256) (o h : Fin 16) (e : Fin 64) : ((EReal.toReal (k (ix4 P o h e)) : ℝ) : EReal) = k (ix4 P o h e)

section Result
variable {m : (ℓ : Loc nD τ sig) → Buf (Elt Ideal) ℓ} {q : S16x1x16x64.Idx → EReal} {k v : S256x16x16x64.Idx → EReal}
  {b : S16x128.Idx → BitVec 32} {l : S16x1.Idx → BitVec 32}

/-- The page a block names, and a page's scores. -/
def pageAt (b : S16x128.Idx → BitVec 32) (n : Fin 16) (t : Fin 128) : Fin 256 := ⟨(b (ix2 n t)).toNat % 256, Nat.mod_lt _ (by decide)⟩
def scoreAt (q : S16x1x16x64.Idx → EReal) (k : S256x16x16x64.Idx → EReal) (n h : Fin 16) (P : Fin 256) (o : Fin 16) : ℝ :=
  (∑ e : Fin 64, (q (ix4 n 0 h e)).toReal * (k (ix4 P o h e)).toReal) * scale

theorem Good.page (G : Good q k b l) (n : Fin 16) (t : Fin 128) (h : (t.val : ℤ) < (l (ix2 n 0)).toInt) : b (ix2 n t) = BitVec.ofNat 32 (pageAt b n t).val := by
  have hr := G.names n t h
  have hlt : (b (ix2 n t)).toNat < 256 := by
    have h1 := (b (ix2 n t)).isLt
    rw [BitVec.toInt_eq_toNat_cond] at hr
    split at hr <;> omega
  show b (ix2 n t) = BitVec.ofNat 32 ((b (ix2 n t)).toNat % 256)
  rw [Nat.mod_eq_of_lt hlt, BitVec.ofNat_toNat, BitVec.setWidth_eq]

theorem Good.score (G : Good q k b l) (n h : Fin 16) (P : Fin 256) (o : Fin 16) :
    (∑ e : Fin 64, q (ix4 n 0 h e) * k (ix4 P o h e)) * ((scale : ℝ) : EReal) = ((scoreAt q k n h P o : ℝ) : EReal) := by
  unfold scoreAt
  rw [EReal.coe_mul, coe_sum]
  refine congrArg (· * ((scale : ℝ) : EReal)) (Finset.sum_congr rfl fun e _ => ?_)
  rw [EReal.coe_mul, G.queries, G.keys]

theorem Good.live (G : Good q k b l) (n : Fin 16) : ∃ t, liveIn l n t :=
  ⟨0, show ((0 : ℕ) : ℤ) < (l (ix2 n 0)).toInt from lt_of_lt_of_le (by decide) (G.some_live n)⟩

theorem holds (S : Same m q k v b l) (G : Good q k b l) (c : Dev nD) (x : Fin 2) (n : Fin 16) (j : Fin 8) (d : Fin 64) :
    Holds c (qOf m c) (kOf m c) (vOf m c) (bOf m c) l x n j (pageAt b n) (scoreAt q k n (headF x j)) d fun P o => v (ix4 P o (headF x j) d) where
  names t ht := by rw [S.b]; exact G.page n t ht
  scores p o := by
    rw [← G.score, S.q]
    refine congrArg (· * ((scale : ℝ) : EReal)) (Finset.sum_congr rfl fun e _ => ?_)
    exact congrArg (q (ix4 n 0 (headF x j) e) * ·) (S.k c p o (headF x j) e)
  values p o := S.v c p o (headF x j) d

/-- A device's finished heads. -/
theorem fmOf_at (S : Same m q k v b l) (G : Good q k b l) (c : Dev nD) (n : Fin 16) (j : Fin 8) (d : Fin 64) :
    fmOf m c (ix4 0 n j d) = attended (liveIn l n) (pageAt b n) (scoreAt q k n (headF (xOf c) j)) fun P o => v (ix4 P o (headF (xOf c) j) d) := by
  have hx : xOf (ypeer c) = xOf c := by revert c; decide
  have hy : yOf c ≠ yOf (ypeer c) := by revert c; decide
  rw [fmOf_eq, cmOf_eq, cmOf_eq, hx, S.l c, S.l (ypeer c)]
  exact finished_attended hy (holds S G c (xOf c) n j d) (holds S G (ypeer c) (xOf c) n j d) (G.live n)

/-- A device's result. -/
theorem resOf_at (S : Same m q k v b l) (G : Good q k b l) (c : Dev nD) (n h : Fin 16) (d : Fin 64) :
    resOf m c (ix4 n 0 h d) = attended (liveIn l n) (pageAt b n) (scoreAt q k n h) fun P o => v (ix4 P o h d) := by
  obtain ⟨x, j, rfl⟩ : ∃ (x : Fin 2) (j : Fin 8), h = headF x j :=
    ⟨⟨h.val / 8, by omega⟩, ⟨h.val % 8, by omega⟩, Fin.ext (show h.val = 8 * (h.val / 8) + h.val % 8 by omega)⟩
  rw [resOf_eq]
  by_cases hx : x = xOf c
  · subst hx
    rw [outOf_own, fmOf_at S G]
  · obtain rfl : x = 1 - xOf c := by
      revert hx; generalize xOf c = y; revert x y; decide
    have hp : 1 - xOf c = xOf (xpeer c) := by revert c; decide
    rw [outOf_other, landF_at, fmOf_at S G, hp]

/-- It is the reference's. -/
theorem resOf_attend (S : Same m q k v b l) (G : Good q k b l) (c : Dev nD) : resOf m c = Ref.attend (F := Ideal) q k v b l := by
  funext i
  obtain ⟨n, z, h, d, rfl⟩ : ∃ (n : Fin 16) (z : Fin 1) (h : Fin 16) (d : Fin 64), i = ix4 n z h d := ⟨i 0, i 1, i 2, i 3, eq_ix4 i⟩
  obtain rfl := Subsingleton.elim z 0
  rw [resOf_at S G]
  refine (Ref.attend_at q k v b l n h d (liveIn l n) (fun t => Iff.rfl) (G.live n) (pageAt b n) (fun t ht => G.page n t ht) (scoreAt q k n h) fun P o => ?_).symm
  rw [scale_eq]
  exact G.score n h P o

end Result

theorem algebraic : Cert.algebraic_KernelIdeal_ReferenceIdeal_pre_well_formed_KernelIdeal := by
  intro m g m' g' hpre hin
  have W (c : Dev nD) := wellFormed _ _ _ _ _ (hpre c)
  have S : Same m (m' ((((0 : Dev Cert.ReferenceIdeal.nD)).tc : Thread Cert.ReferenceIdeal.nD Cert.ReferenceIdeal.τ).loc Cert.ReferenceIdeal.main_arg0))
      (m' ((((0 : Dev Cert.ReferenceIdeal.nD)).tc : Thread Cert.ReferenceIdeal.nD Cert.ReferenceIdeal.τ).loc Cert.ReferenceIdeal.main_arg1))
      (m' ((((0 : Dev Cert.ReferenceIdeal.nD)).tc : Thread Cert.ReferenceIdeal.nD Cert.ReferenceIdeal.τ).loc Cert.ReferenceIdeal.main_arg2))
      (m' ((((0 : Dev Cert.ReferenceIdeal.nD)).tc : Thread Cert.ReferenceIdeal.nD Cert.ReferenceIdeal.τ).loc Cert.ReferenceIdeal.main_arg3))
      (m' ((((0 : Dev Cert.ReferenceIdeal.nD)).tc : Thread Cert.ReferenceIdeal.nD Cert.ReferenceIdeal.τ).loc Cert.ReferenceIdeal.main_arg4)) :=
    { q := fun c => (funext (qOf_apply m c)).trans (hin c).1
      k := fun c p o h e => (congrFun (hin c).2.1 (ix4 p o h e)).trans (half_at c _ p o h e)
      v := fun c p o h e => (congrFun (hin c).2.2.1 (ix4 p o h e)).trans (half_at c _ p o h e)
      b := fun c => (funext (bOf_apply m c)).trans (hin c).2.2.2.1
      l := fun c => (funext (lOf_apply m c)).trans (hin c).2.2.2.2 }
  generalize hq : m' ((((0 : Dev Cert.ReferenceIdeal.nD)).tc : Thread Cert.ReferenceIdeal.nD Cert.ReferenceIdeal.τ).loc Cert.ReferenceIdeal.main_arg0) = q at S
  generalize hk : m' ((((0 : Dev Cert.ReferenceIdeal.nD)).tc : Thread Cert.ReferenceIdeal.nD Cert.ReferenceIdeal.τ).loc Cert.ReferenceIdeal.main_arg1) = k at S
  generalize hv : m' ((((0 : Dev Cert.ReferenceIdeal.nD)).tc : Thread Cert.ReferenceIdeal.nD Cert.ReferenceIdeal.τ).loc Cert.ReferenceIdeal.main_arg2) = v at S
  generalize hb : m' ((((0 : Dev Cert.ReferenceIdeal.nD)).tc : Thread Cert.ReferenceIdeal.nD Cert.ReferenceIdeal.τ).loc Cert.ReferenceIdeal.main_arg3) = b at S
  generalize hl : m' ((((0 : Dev Cert.ReferenceIdeal.nD)).tc : Thread Cert.ReferenceIdeal.nD Cert.ReferenceIdeal.τ).loc Cert.ReferenceIdeal.main_arg4) = l at S
  have G : Good q k b l := by
    have e0 (c : Dev nD) := (hin c).1.trans hq
    have e3 (c : Dev nD) := (hin c).2.2.2.1.trans hb
    have e4 (c : Dev nD) := (hin c).2.2.2.2.trans hl
    refine ⟨fun n => ?_, fun n t h => ?_, fun i => ?_, fun P o h e => ?_⟩
    · have := (W 0).some_live n
      rwa [e4] at this
    · have := (W 0).names n t
      rw [e4, e3] at this
      exact this h
    · have := (W 0).queries i
      rwa [e0] at this
    · obtain ⟨c, p, rfl⟩ : ∃ (c : Dev nD) (p : Fin 128), P = pageIn (yOf c) p :=
        ⟨⟨P.val / 128, lt_of_lt_of_le (show P.val / 128 < 2 by omega) (by decide)⟩, ⟨P.val % 128, by omega⟩,
          Fin.ext (show P.val = P.val % 128 + 128 * (P.val / 128 % 2) by omega)⟩
      have := (W c).keys (ix4 p o h e)
      rwa [show m ((c.tc : Thread nD τ).loc main_arg1) (ix4 p o h e) = k (ix4 (pageIn (yOf c) p) o h e) from S.k c p o h e] at this
  refine ⟨Ref.attend (F := Ideal) q k v b l, ?_, ?_⟩
  · refine (θ_run Cert.KernelIdeal.defs _ _).mono (fun r h c => ?_) (run_args (F := Ideal) m g)
    exact ⟨(h.1 c).1.trans (resOf_attend S G c), (h.1 c).2⟩
  · subst hq hk hv hb hl
    refine (θ_run Cert.ReferenceIdeal.defs _ _).mono (fun r h => ?_) (Cert.ReferenceIdeal.Value.run m' g')
    exact ⟨(h 0).1.trans (Ref.res_eq m' 0), (h 0).2⟩

end Cert.Paged
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Precondition
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Paged.facts_pre_kernel, Cert.Paged.facts_pre_reference,
  Cert.Paged.frame_kernel, Cert.Paged.frame_ideal, Cert.Paged.frame_ideal_pre, Cert.Paged.frame_reference, Cert.Paged.frame_reference_pre,
  trivial, Cert.Paged.algebraic⟩

end Cert.Proof

end
